-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_routing [hPre_finite_routing : Cert.Pre_finite_routing.Facts] (m : (ℓ : Loc Cert.KernelIdeal.nD Cert.KernelIdeal.τ Cert.KernelIdeal.sig) → Buf (Elt Ideal) ℓ) : Prop :=
  ∀ c : Dev Cert.KernelIdeal.nD,
    (Cert.Pre_finite_routing.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_finite_routing.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_finite_routing.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_finite_routing.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 = (fun _ => 1#1)
    ∧ (Cert.Pre_finite_routing.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.1 = (fun _ => 1#1)
    ∧ (Cert.Pre_finite_routing.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_routing [hPre_finite_routing : Cert.Pre_finite_routing.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_routing.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_finite_routing.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_finite_routing.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_finite_routing.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.1 = (fun _ => 1#1)
    ∧ (Cert.Pre_finite_routing.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.1 = (fun _ => 1#1)
    ∧ (Cert.Pre_finite_routing.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_cross [hPre_finite_cross : Cert.Pre_finite_cross.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_cross.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).1 = (fun _ => 1#1)
    ∧ (Cert.Pre_finite_cross.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).2.1 = (fun _ => 1#1)
    ∧ (Cert.Pre_finite_cross.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).2.2.1 = (fun _ => 1#1)
    ∧ (Cert.Pre_finite_cross.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_cross [hPre_finite_cross : Cert.Pre_finite_cross.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_cross.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).1 = (fun _ => 1#1)
    ∧ (Cert.Pre_finite_cross.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).2.1 = (fun _ => 1#1)
    ∧ (Cert.Pre_finite_cross.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).2.2.1 = (fun _ => 1#1)
    ∧ (Cert.Pre_finite_cross.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).2.2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite_routing [hKernelIdeal : Cert.KernelIdeal.Facts] [hPre_finite_routing : Cert.Pre_finite_routing.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_routing m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite_routing [hReferenceIdeal : Cert.ReferenceIdeal.Facts] [hPre_finite_routing : Cert.Pre_finite_routing.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_routing m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Kernel4Ideal_pre_finite_cross [hKernel4Ideal : Cert.Kernel4Ideal.Facts] [hPre_finite_cross : Cert.Pre_finite_cross.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_cross m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Reference4Ideal_pre_finite_cross [hReference4Ideal : Cert.Reference4Ideal.Facts] [hPre_finite_cross : Cert.Pre_finite_cross.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_cross m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def preserves_Kernel_KernelIdeal : Prop :=
  True

def algebraic_KernelIdeal_ReferenceIdeal_pre_finite_routing [hKernelIdeal : Cert.KernelIdeal.Facts] [hReferenceIdeal : Cert.ReferenceIdeal.Facts] [hPre_finite_routing : Cert.Pre_finite_routing.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_routing m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v3_0)) (v1 : (c : Dev Cert.Kernel2Ideal.nD) → Buf (Elt Ideal) ((c.tc : Thread Cert.Kernel2Ideal.nD Cert.Kernel2Ideal.τ).loc Cert.Kernel2Ideal.main_v3_1)) (v2 : (c : Dev Cert.Kernel2Ideal.nD) → Buf (Elt Ideal) ((c.tc : Thread Cert.Kernel2Ideal.nD Cert.Kernel2Ideal.τ).loc Cert.Kernel2Ideal.main_v3_2)) (v3 : (c : Dev Cert.Kernel2Ideal.nD) → Buf (Elt Ideal) ((c.tc : Thread Cert.Kernel2Ideal.nD Cert.Kernel2Ideal.τ).loc Cert.Kernel2Ideal.main_v3_3)) (v4 : (c : Dev Cert.Kernel2Ideal.nD) → Buf (Elt Ideal) ((c.tc : Thread Cert.Kernel2Ideal.nD Cert.Kernel2Ideal.τ).loc Cert.Kernel2Ideal.main_v3_4)) (v5 : (c : Dev Cert.Kernel2Ideal.nD) → Buf (Elt Ideal) ((c.tc : Thread Cert.Kernel2Ideal.nD Cert.Kernel2Ideal.τ).loc Cert.Kernel2Ideal.main_v3_5)) (v6 : (c : Dev Cert.Kernel2Ideal.nD) → Buf (Elt Ideal) ((c.tc : Thread Cert.Kernel2Ideal.nD Cert.Kernel2Ideal.τ).loc Cert.Kernel2Ideal.main_v3_6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3_0) = v0 c
          ∧ r.2.mem ((c.tc : Thread Cert.Kernel2Ideal.nD Cert.Kernel2Ideal.τ).loc Cert.Kernel2Ideal.main_v3_1) = v1 c
          ∧ r.2.mem ((c.tc : Thread Cert.Kernel2Ideal.nD Cert.Kernel2Ideal.τ).loc Cert.Kernel2Ideal.main_v3_2) = v2 c
          ∧ r.2.mem ((c.tc : Thread Cert.Kernel2Ideal.nD Cert.Kernel2Ideal.τ).loc Cert.Kernel2Ideal.main_v3_3) = v3 c
          ∧ r.2.mem ((c.tc : Thread Cert.Kernel2Ideal.nD Cert.Kernel2Ideal.τ).loc Cert.Kernel2Ideal.main_v3_4) = v4 c
          ∧ r.2.mem ((c.tc : Thread Cert.Kernel2Ideal.nD Cert.Kernel2Ideal.τ).loc Cert.Kernel2Ideal.main_v3_5) = v5 c
          ∧ r.2.mem ((c.tc : Thread Cert.Kernel2Ideal.nD Cert.Kernel2Ideal.τ).loc Cert.Kernel2Ideal.main_v3_6) = v6 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_v15) = v1 c
          ∧ r.2.mem ((c.tc : Thread Cert.Reference2Ideal.nD Cert.Reference2Ideal.τ).loc Cert.Reference2Ideal.main_v16) = v2 c
          ∧ r.2.mem ((c.tc : Thread Cert.Reference2Ideal.nD Cert.Reference2Ideal.τ).loc Cert.Reference2Ideal.main_v17) = v3 c
          ∧ r.2.mem ((c.tc : Thread Cert.Reference2Ideal.nD Cert.Reference2Ideal.τ).loc Cert.Reference2Ideal.main_v18) = v4 c
          ∧ r.2.mem ((c.tc : Thread Cert.Reference2Ideal.nD Cert.Reference2Ideal.τ).loc Cert.Reference2Ideal.main_v19) = v5 c
          ∧ r.2.mem ((c.tc : Thread Cert.Reference2Ideal.nD Cert.Reference2Ideal.τ).loc Cert.Reference2Ideal.main_v21) = v6 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v53)) (v1 : (c : Dev Cert.Kernel3Ideal.nD) → Buf (Elt Ideal) ((c.tc : Thread Cert.Kernel3Ideal.nD Cert.Kernel3Ideal.τ).loc Cert.Kernel3Ideal.main_v58)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v53) = v0 c
          ∧ r.2.mem ((c.tc : Thread Cert.Kernel3Ideal.nD Cert.Kernel3Ideal.τ).loc Cert.Kernel3Ideal.main_v58) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v17) = v0 c
          ∧ r.2.mem ((c.tc : Thread Cert.Reference3Ideal.nD Cert.Reference3Ideal.τ).loc Cert.Reference3Ideal.main_v18) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  IdealRules.named_const.Statement Cert.Kernel4Ideal.κ "cross_scale" .f32 0x3E0293EE#32 (((Real.log 2)⁻¹ * (Real.sqrt 128)⁻¹ : ℝ) : EReal)

def algebraic_Kernel4Ideal_Reference4Ideal_pre_finite_cross [hKernel4Ideal : Cert.Kernel4Ideal.Facts] [hReference4Ideal : Cert.Reference4Ideal.Facts] [hPre_finite_cross : Cert.Pre_finite_cross.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_cross m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v36) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v1) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite_routing : Cert.Pre_finite_routing.Facts) (hPre_finite_cross : Cert.Pre_finite_cross.Facts),
    quiescent_Kernel (hKernel := hKernel)
    ∧ quiescent_KernelIdeal (hKernelIdeal := hKernelIdeal)
    ∧ quiescent_KernelIdeal_pre_finite_routing (hKernelIdeal := hKernelIdeal) (hPre_finite_routing := hPre_finite_routing)
    ∧ quiescent_ReferenceIdeal (hReferenceIdeal := hReferenceIdeal)
    ∧ quiescent_ReferenceIdeal_pre_finite_routing (hReferenceIdeal := hReferenceIdeal) (hPre_finite_routing := hPre_finite_routing)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite_cross (hKernel4Ideal := hKernel4Ideal) (hPre_finite_cross := hPre_finite_cross)
    ∧ quiescent_Reference4Ideal (hReference4Ideal := hReference4Ideal)
    ∧ quiescent_Reference4Ideal_pre_finite_cross (hReference4Ideal := hReference4Ideal) (hPre_finite_cross := hPre_finite_cross)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite_routing (hKernelIdeal := hKernelIdeal) (hReferenceIdeal := hReferenceIdeal) (hPre_finite_routing := hPre_finite_routing)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite_cross (hKernel4Ideal := hKernel4Ideal) (hReference4Ideal := hReference4Ideal) (hPre_finite_cross := hPre_finite_cross)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite_cross.lean ====
abbrev S16384x1024 : Shape := ⟨2, ![16384, 1024]⟩
abbrev S1024 : Shape := ⟨1, ![1024]⟩
abbrev S1024x512 : Shape := ⟨2, ![1024, 512]⟩
abbrev S512x1024 : Shape := ⟨2, ![512, 1024]⟩
abbrev S8x256x4x128 : Shape := ⟨4, ![8, 256, 4, 128]⟩
abbrev S_ : Shape := ⟨0, ![]⟩

class Facts : Prop where
  bcast_S_S16384x1024 : S_.BroadcastsInDim S16384x1024 (![] : Fin 0 → Fin S16384x1024.rank)
  bcast_S_S1024 : S_.BroadcastsInDim S1024 (![] : Fin 0 → Fin S1024.rank)
  bcast_S_S1024x512 : S_.BroadcastsInDim S1024x512 (![] : Fin 0 → Fin S1024x512.rank)
  bcast_S_S8x256x4x128 : S_.BroadcastsInDim S8x256x4x128 (![] : Fin 0 → Fin S8x256x4x128.rank)

variable [Facts]

def fn {F : FTy → Type} [FloatOps F] (main_arg0 : FVec F S16384x1024 .f32) (main_arg1 : FVec F S1024 .f32) (main_arg2 : FVec F S1024x512 .f32) (main_arg3 : FVec F S512x1024 .f32) (main_arg4 : FVec F S8x256x4x128 .f32) (main_arg5 : FVec F S8x256x4x128 .f32) : IVec S16384x1024 1 × IVec S1024 1 × IVec S1024x512 1 × IVec S8x256x4x128 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x512 .f32 := Host.absf main_arg2
  let main_cst_1 : FVec F S_ .f32 := constant S_ .f32 0x7F800000#32
  let main_v7 : FVec F S1024x512 .f32 := broadcastInDim S1024x512 ![] bcast_S_S1024x512 main_cst_1
  let main_v8 : IVec S1024x512 1 := cmpf .olt main_v6 main_v7
  let main_v9 : FVec F S8x256x4x128 .f32 := Host.absf main_arg4
  let main_cst_2 : FVec F S_ .f32 := constant S_ .f32 0x7F800000#32
  let main_v10 : FVec F S8x256x4x128 .f32 := broadcastInDim S8x256x4x128 ![] bcast_S_S8x256x4x128 main_cst_2
  let main_v11 : IVec S8x256x4x128 1 := cmpf .olt main_v9 main_v10
  (main_v2, main_v5, main_v8, main_v11)
-- ==== Pre_finite_routing.lean ====
abbrev S16384x1024 : Shape := ⟨2, ![16384, 1024]⟩
abbrev S1024 : Shape := ⟨1, ![1024]⟩
abbrev S1024x4 : Shape := ⟨2, ![1024, 4]⟩
abbrev S4 : Shape := ⟨1, ![4]⟩
abbrev S1024x16 : Shape := ⟨2, ![1024, 16]⟩
abbrev S16 : Shape := ⟨1, ![16]⟩
abbrev S4x16x1024x256 : Shape := ⟨4, ![4, 16, 1024, 256]⟩
abbrev S4x16x256x1024 : Shape := ⟨4, ![4, 16, 256, 1024]⟩
abbrev S_ : Shape := ⟨0, ![]⟩

class Facts : Prop where
  bcast_S_S16384x1024 : S_.BroadcastsInDim S16384x1024 (![] : Fin 0 → Fin S16384x1024.rank)
  bcast_S_S1024 : S_.BroadcastsInDim S1024 (![] : Fin 0 → Fin S1024.rank)
  bcast_S_S1024x4 : S_.BroadcastsInDim S1024x4 (![] : Fin 0 → Fin S1024x4.rank)
  bcast_S_S4 : S_.BroadcastsInDim S4 (![] : Fin 0 → Fin S4.rank)
  bcast_S_S1024x16 : S_.BroadcastsInDim S1024x16 (![] : Fin 0 → Fin S1024x16.rank)
  bcast_S_S16 : S_.BroadcastsInDim S16 (![] : Fin 0 → Fin S16.rank)

variable [Facts]

def fn {F : FTy → Type} [FloatOps F] (main_arg0 : FVec F S16384x1024 .f32) (main_arg1 : FVec F S1024 .f32) (main_arg2 : FVec F S1024x4 .f32) (main_arg3 : FVec F S4 .f32) (main_arg4 : FVec F S1024x16 .f32) (main_arg5 : FVec F S16 .f32) (main_arg6 : FVec F S4x16x1024x256 .f32) (main_arg7 : FVec F S4x16x1024x256 .f32) (main_arg8 : FVec F S4x16x256x1024 .f32) : IVec S16384x1024 1 × IVec S1024 1 × IVec S1024x4 1 × IVec S4 1 × IVec S1024x16 1 × IVec S16 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x4 .f32 := Host.absf main_arg2
  let main_cst_1 : FVec F S_ .f32 := constant S_ .f32 0x7F800000#32
  let main_v7 : FVec F S1024x4 .f32 := broadcastInDim S1024x4 ![] bcast_S_S1024x4 main_cst_1
  let main_v8 : IVec S1024x4 1 := cmpf .olt main_v6 main_v7
  let main_v9 : FVec F S4 .f32 := Host.absf main_arg3
  let main_cst_2 : FVec F S_ .f32 := constant S_ .f32 0x7F800000#32
  let main_v10 : FVec F S4 .f32 := broadcastInDim S4 ![] bcast_S_S4 main_cst_2
  let main_v11 : IVec S4 1 := cmpf .olt main_v9 main_v10
  let main_v12 : FVec F S1024x16 .f32 := Host.absf main_arg4
  let main_cst_3 : FVec F S_ .f32 := constant S_ .f32 0x7F800000#32
  let main_v13 : FVec F S1024x16 .f32 := broadcastInDim S1024x16 ![] bcast_S_S1024x16 main_cst_3
  let main_v14 : IVec S1024x16 1 := cmpf .olt main_v12 main_v13
  let main_v15 : FVec F S16 .f32 := Host.absf main_arg5
  let main_cst_4 : FVec F S_ .f32 := constant S_ .f32 0x7F800000#32
  let main_v16 : FVec F S16 .f32 := broadcastInDim S16 ![] bcast_S_S16 main_cst_4
  let main_v17 : IVec S16 1 := cmpf .olt main_v15 main_v16
  (main_v2, main_v5, main_v8, main_v11, main_v14, main_v17)
-- ==== Kernel.lean ====
abbrev S16384x1024 : Shape := ⟨2, ![16384, 1024]⟩
abbrev S1024 : Shape := ⟨1, ![1024]⟩
abbrev S1024x4 : Shape := ⟨2, ![1024, 4]⟩
abbrev S4 : Shape := ⟨1, ![4]⟩
abbrev S1024x16 : Shape := ⟨2, ![1024, 16]⟩
abbrev S16 : Shape := ⟨1, ![16]⟩
abbrev S4x16x1024x256 : Shape := ⟨4, ![4, 16, 1024, 256]⟩
abbrev S4x16x256x1024 : Shape := ⟨4, ![4, 16, 256, 1024]⟩
abbrev S_ : Shape := ⟨0, ![]⟩
abbrev S1024x108 : Shape := ⟨2, ![1024, 108]⟩
abbrev S1024x128 : Shape := ⟨2, ![1024, 128]⟩
abbrev S108 : Shape := ⟨1, ![108]⟩
abbrev S128 : Shape := ⟨1, ![128]⟩
abbrev S1x128 : Shape := ⟨2, ![1, 128]⟩
abbrev S1x1024 : Shape := ⟨2, ![1, 1024]⟩
abbrev S1024x1024 : Shape := ⟨2, ![1024, 1024]⟩
abbrev S1x1x1024x256 : Shape := ⟨4, ![1, 1, 1024, 256]⟩
abbrev S1x1x256x1024 : Shape := ⟨4, ![1, 1, 256, 1024]⟩
abbrev S1024x1 : Shape := ⟨2, ![1024, 1]⟩
abbrev S1024x256 : Shape := ⟨2, ![1024, 256]⟩
abbrev S256x1024 : Shape := ⟨2, ![256, 1024]⟩

abbrev nBuf : Space → Nat
  | .hbm => 22
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4, .f32⟩
  | .hbm, ⟨3, _⟩ => ⟨S4, .f32⟩
  | .hbm, ⟨4, _⟩ => ⟨S1024x16, .f32⟩
  | .hbm, ⟨5, _⟩ => ⟨S16, .f32⟩
  | .hbm, ⟨6, _⟩ => ⟨S4x16x1024x256, .f32⟩
  | .hbm, ⟨7, _⟩ => ⟨S4x16x1024x256, .f32⟩
  | .hbm, ⟨8, _⟩ => ⟨S4x16x256x1024, .f32⟩
  | .hbm, ⟨9, _⟩ => ⟨S4x16x1024x256, .bf16⟩
  | .hbm, ⟨10, _⟩ => ⟨S4x16x1024x256, .bf16⟩
  | .hbm, ⟨11, _⟩ => ⟨S4x16x256x1024, .bf16⟩
  | .hbm, ⟨12, _⟩ => ⟨S_, .f32⟩
  | .hbm, ⟨13, _⟩ => ⟨S1024x108, .f32⟩
  | .hbm, ⟨14, _⟩ => ⟨S1024x128, .f32⟩
  | .hbm, ⟨15, _⟩ => ⟨S1024x128, .bf16⟩
  | .hbm, ⟨16, _⟩ => ⟨S_, .f32⟩
  | .hbm, ⟨17, _⟩ => ⟨S108, .f32⟩
  | .hbm, ⟨18, _⟩ => ⟨S128, .f32⟩
  | .hbm, ⟨19, _⟩ => ⟨S1x128, .f32⟩
  | .hbm, ⟨20, _⟩ => ⟨S1x1024, .f32⟩
  | .hbm, ⟨21, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x128, .bf16⟩
  | .local _ .vmem, ⟨4, _⟩ => ⟨S1x128, .f32⟩
  | .local _ .vmem, ⟨5, _⟩ => ⟨S1x1x1024x256, .bf16⟩
  | .local _ .vmem, ⟨6, _⟩ => ⟨S1x1x1024x256, .bf16⟩
  | .local _ .vmem, ⟨7, _⟩ => ⟨S1x1x1024x256, .bf16⟩
  | .local _ .vmem, ⟨8, _⟩ => ⟨S1x1x1024x256, .bf16⟩
  | .local _ .vmem, ⟨9, _⟩ => ⟨S1x1x256x1024, .bf16⟩
  | .local _ .vmem, ⟨10, _⟩ => ⟨S1x1x256x1024, .bf16⟩
  | .local _ .vmem, ⟨11, _⟩ => ⟨S1024x1024, .f32⟩
  | .local _ .vmem, ⟨12, _⟩ => ⟨S1024x1024, .f32⟩
  | .local _ .vmem, ⟨13, _⟩ => ⟨S1024x1024, .bf16⟩
  | .local _ .vmem, ⟨14, _⟩ => ⟨S1024x128, .f32⟩
  | .local _ .vmem, ⟨15, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c15_i32 : BitVec 32 := 15#32
  let v39 : BitVec 1 := Scalar.cmpi .eq arg1 c15_i32
  let v40 : BitVec 32 := Scalar.extui v39
  let c0_i32_27 : BitVec 32 := 0#32
  let v41 : BitVec 1 := Scalar.cmpi .ne v40 c0_i32_27
  v41

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S16384x1024 : Shape := ⟨2, ![16384, 1024]⟩
abbrev S1024 : Shape := ⟨1, ![1024]⟩
abbrev S1024x4 : Shape := ⟨2, ![1024, 4]⟩
abbrev S4 : Shape := ⟨1, ![4]⟩
abbrev S1024x16 : Shape := ⟨2, ![1024, 16]⟩
abbrev S16 : Shape := ⟨1, ![16]⟩
abbrev S4x16x1024x256 : Shape := ⟨4, ![4, 16, 1024, 256]⟩
abbrev S4x16x256x1024 : Shape := ⟨4, ![4, 16, 256, 1024]⟩
abbrev S8x2048x1024 : Shape := ⟨3, ![8, 2048, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1x16x1024x256 : Shape := ⟨4, ![1, 16, 1024, 256]⟩
abbrev S16x1024x256 : Shape := ⟨3, ![16, 1024, 256]⟩
abbrev S1x16x256x1024 : Shape := ⟨4, ![1, 16, 256, 1024]⟩
abbrev S16x256x1024 : Shape := ⟨3, ![16, 256, 1024]⟩
abbrev S16384 : Shape := ⟨1, ![16384]⟩
abbrev S16384x4 : Shape := ⟨2, ![16384, 4]⟩
abbrev S1x4 : Shape := ⟨2, ![1, 4]⟩
abbrev S16384x1 : Shape := ⟨2, ![16384, 1]⟩
abbrev S16384x2 : Shape := ⟨2, ![16384, 2]⟩
abbrev S16384x16 : Shape := ⟨2, ![16384, 16]⟩
abbrev S1x16 : Shape := ⟨2, ![1, 16]⟩
abbrev S16384x4x4 : Shape := ⟨3, ![16384, 4, 4]⟩
abbrev S16384x2x1 : Shape := ⟨3, ![16384, 2, 1]⟩
abbrev S1x1x16 : Shape := ⟨3, ![1, 1, 16]⟩
abbrev S16384x2x16 : Shape := ⟨3, ![16384, 2, 16]⟩
abbrev S16384x16x256 : Shape := ⟨3, ![16384, 16, 256]⟩
abbrev S16384x16x1 : Shape := ⟨3, ![16384, 16, 1]⟩

abbrev nBuf : Space → Nat
  | .hbm => 151
  | .vmem => 0
  | .smem => 0
  | _ => 0

abbrev hbmTy0_0 (i : Nat) : BufTy := match i % 128 with
  | 0 => ⟨S16384x1024, .f32⟩
  | 1 => ⟨S1024, .f32⟩
  | 2 => ⟨S1024x4, .f32⟩
  | 3 => ⟨S4, .f32⟩
  | 4 => ⟨S1024x16, .f32⟩
  | 5 => ⟨S16, .f32⟩
  | 6 => ⟨S4x16x1024x256, .f32⟩
  | 7 => ⟨S4x16x1024x256, .f32⟩
  | 8 => ⟨S4x16x256x1024, .f32⟩
  | 9 => ⟨S8x2048x1024, .f32⟩
  | 10 => ⟨S8x2048x1024, .f32⟩
  | 11 => ⟨S_, .f32⟩
  | 12 => ⟨S8x2048, .f32⟩
  | 13 => ⟨S8x2048x1, .f32⟩
  | 14 => ⟨S_, .f32⟩
  | 15 => ⟨S8x2048x1, .f32⟩
  | 16 => ⟨S8x2048x1, .f32⟩
  | 17 => ⟨S_, .f32⟩
  | 18 => ⟨S8x2048x1, .f32⟩
  | 19 => ⟨S8x2048x1, .f32⟩
  | 20 => ⟨S8x2048x1, .f32⟩
  | 21 => ⟨S8x2048x1024, .f32⟩
  | 22 => ⟨S8x2048x1024, .f32⟩
  | 23 => ⟨S1x1x1024, .f32⟩
  | 24 => ⟨S8x2048x1024, .f32⟩
  | 25 => ⟨S8x2048x1024, .f32⟩
  | 26 => ⟨S1x16x1024x256, .f32⟩
  | 27 => ⟨S16x1024x256, .f32⟩
  | 28 => ⟨S1x16x1024x256, .f32⟩
  | 29 => ⟨S16x1024x256, .f32⟩
  | 30 => ⟨S1x16x256x1024, .f32⟩
  | 31 => ⟨S16x256x1024, .f32⟩
  | 32 => ⟨S16384x1024, .f32⟩
  | 33 => ⟨S16384, .i32⟩
  | 34 => ⟨S16384x4, .f32⟩
  | 35 => ⟨S1x4, .f32⟩
  | 36 => ⟨S16384x4, .f32⟩
  | 37 => ⟨S16384x4, .f32⟩
  | 38 => ⟨S_, .f32⟩
  | 39 => ⟨S16384, .f32⟩
  | 40 => ⟨S_, .f32⟩
  | 41 => ⟨S16384, .f32⟩
  | 42 => ⟨S16384, .f32⟩
  | 43 => ⟨S16384x1, .f32⟩
  | 44 => ⟨S16384x4, .f32⟩
  | 45 => ⟨S16384x4, .f32⟩
  | 46 => ⟨S16384x4, .f32⟩
  | 47 => ⟨S_, .f32⟩
  | 48 => ⟨S16384, .f32⟩
  | 49 => ⟨S16384x1, .f32⟩
  | 50 => ⟨S16384x4, .f32⟩
  | 51 => ⟨S16384x4, .f32⟩
  | 52 => ⟨S16384x1, .f32⟩
  | 53 => ⟨S16384x1, .i32⟩
  | 54 => ⟨S16384, .i32⟩
  | 55 => ⟨S_, .i32⟩
  | 56 => ⟨S16384, .i32⟩
  | 57 => ⟨S16384, .i1⟩
  | 58 => ⟨S_, .i32⟩
  | 59 => ⟨S16384, .i32⟩
  | 60 => ⟨S16384, .i32⟩
  | 61 => ⟨S16384, .i32⟩
  | 62 => ⟨S_, .i32⟩
  | 63 => ⟨S16384, .i32⟩
  | 64 => ⟨S16384, .i1⟩
  | 65 => ⟨S_, .i32⟩
  | 66 => ⟨S16384, .i32⟩
  | 67 => ⟨S16384, .i32⟩
  | 68 => ⟨S16384, .i32⟩
  | 69 => ⟨S16384x1, .i32⟩
  | 70 => ⟨S16384x1, .i32⟩
  | 71 => ⟨S16384x2, .i32⟩
  | 72 => ⟨S16384, .f32⟩
  | 73 => ⟨S16384x1, .f32⟩
  | 74 => ⟨S16384x16, .f32⟩
  | 75 => ⟨S1x16, .f32⟩
  | 76 => ⟨S16384x16, .f32⟩
  | 77 => ⟨S16384x16, .f32⟩
  | 78 => ⟨S16384x4x4, .f32⟩
  | 79 => ⟨S_, .i32⟩
  | 80 => ⟨S16384, .i32⟩
  | 81 => ⟨S16384, .i1⟩
  | 82 => ⟨S_, .i32⟩
  | 83 => ⟨S16384, .i32⟩
  | 84 => ⟨S16384, .i32⟩
  | 85 => ⟨S16384, .i32⟩
  | 86 => ⟨S_, .i32⟩
  | 87 => ⟨S16384, .i32⟩
  | 88 => ⟨S16384, .i1⟩
  | 89 => ⟨S_, .i32⟩
  | 90 => ⟨S16384, .i32⟩
  | 91 => ⟨S16384, .i32⟩
  | 92 => ⟨S16384, .i32⟩
  | 93 => ⟨S16384x1, .i32⟩
  | 94 => ⟨S16384x1, .i32⟩
  | 95 => ⟨S16384x2, .i32⟩
  | 96 => ⟨S16384x4, .f32⟩
  | 97 => ⟨S16384x2, .f32⟩
  | 98 => ⟨S16384x2, .i32⟩
  | 99 => ⟨S_, .f32⟩
  | 100 => ⟨S16384, .f32⟩
  | 101 => ⟨S_, .f32⟩
  | 102 => ⟨S16384, .f32⟩
  | 103 => ⟨S16384, .f32⟩
  | 104 => ⟨S16384x1, .f32⟩
  | 105 => ⟨S16384x2, .f32⟩
  | 106 => ⟨S16384x2, .f32⟩
  | 107 => ⟨S16384x2, .f32⟩
  | 108 => ⟨S_, .f32⟩
  | 109 => ⟨S16384, .f32⟩
  | 110 => ⟨S16384x1, .f32⟩
  | 111 => ⟨S16384x2, .f32⟩
  | 112 => ⟨S16384x2, .f32⟩
  | 113 => ⟨S16384x2, .f32⟩
  | 114 => ⟨S16384x2, .f32⟩
  | 115 => ⟨S16384x1, .i32⟩
  | 116 => ⟨S_, .i32⟩
  | 117 => ⟨S16384x1, .i32⟩
  | 118 => ⟨S16384x1, .i32⟩
  | 119 => ⟨S16384x2, .i32⟩
  | 120 => ⟨S16384x2, .i32⟩
  | 121 => ⟨S16384x2x1, .i32⟩
  | 122 => ⟨S1x1x16, .i32⟩
  | 123 => ⟨S16384x2x16, .i32⟩
  | 124 => ⟨S16384x2x16, .i32⟩
  | 125 => ⟨S16384x2x16, .i1⟩
  | 126 => ⟨S16384x2x16, .f32⟩
  | 127 => ⟨S16384x2x1, .f32⟩
  | _ => ⟨S16384x1024, .f32⟩

abbrev hbmTy0_1 (i : Nat) : BufTy := match i % 128 with
  | 0 => ⟨S16384x2x16, .f32⟩
  | 1 => ⟨S16384x2x16, .f32⟩
  | 2 => ⟨S_, .f32⟩
  | 3 => ⟨S16384x16, .f32⟩
  | 4 => ⟨S16384x16x256, .f32⟩
  | 5 => ⟨S16384x16x256, .f32⟩
  | 6 => ⟨S16384x16x256, .f32⟩
  | 7 => ⟨S_, .f32⟩
  | 8 => ⟨S16384x16x256, .f32⟩
  | 9 => ⟨S16384x16x256, .f32⟩
  | 10 => ⟨S_, .f32⟩
  | 11 => ⟨S16384x16x256, .f32⟩
  | 12 => ⟨S16384x16x256, .f32⟩
  | 13 => ⟨S16384x16x256, .f32⟩
  | 14 => ⟨S16384x16x256, .f32⟩
  | 15 => ⟨S16384x16x256, .f32⟩
  | 16 => ⟨S16384x16x1, .f32⟩
  | 17 => ⟨S16384x16x256, .f32⟩
  | 18 => ⟨S16384x16x256, .f32⟩
  | 19 => ⟨S16384x1024, .f32⟩
  | 20 => ⟨S8x2048x1024, .f32⟩
  | 21 => ⟨S8x2048x1024, .f32⟩
  | 22 => ⟨S16384x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_2 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_4 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_values : Ref sig .tc := ⟨.hbm, 52, rfl⟩
abbrev main_indices : Ref sig .tc := ⟨.hbm, 53, rfl⟩
abbrev main_v37 : Ref sig .tc := ⟨.hbm, 54, rfl⟩
abbrev main_c : Ref sig .tc := ⟨.hbm, 55, rfl⟩
abbrev main_v38 : Ref sig .tc := ⟨.hbm, 56, rfl⟩
abbrev main_v39 : Ref sig .tc := ⟨.hbm, 57, rfl⟩
abbrev main_c_5 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_c_6 : Ref sig .tc := ⟨.hbm, 62, rfl⟩
abbrev main_v43 : Ref sig .tc := ⟨.hbm, 63, rfl⟩
abbrev main_v44 : Ref sig .tc := ⟨.hbm, 64, rfl⟩
abbrev main_c_7 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_c_8 : Ref sig .tc := ⟨.hbm, 79, rfl⟩
abbrev main_v58 : Ref sig .tc := ⟨.hbm, 80, rfl⟩
abbrev main_v59 : Ref sig .tc := ⟨.hbm, 81, rfl⟩
abbrev main_c_9 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_c_10 : Ref sig .tc := ⟨.hbm, 86, rfl⟩
abbrev main_v63 : Ref sig .tc := ⟨.hbm, 87, rfl⟩
abbrev main_v64 : Ref sig .tc := ⟨.hbm, 88, rfl⟩
abbrev main_c_11 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_values_12 : Ref sig .tc := ⟨.hbm, 97, rfl⟩
abbrev main_indices_13 : Ref sig .tc := ⟨.hbm, 98, rfl⟩
abbrev main_cst_14 : Ref sig .tc := ⟨.hbm, 99, rfl⟩
abbrev main_v72 : Ref sig .tc := ⟨.hbm, 100, rfl⟩
abbrev main_cst_15 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst_16 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_c_17 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_call0_v0 : Ref sig .tc := ⟨.hbm, 121, rfl⟩
abbrev main_call0_v1 : Ref sig .tc := ⟨.hbm, 122, rfl⟩
abbrev main_call0_v2 : Ref sig .tc := ⟨.hbm, 123, rfl⟩
abbrev main_call0_v3 : Ref sig .tc := ⟨.hbm, 124, rfl⟩
abbrev main_call0_v4 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_cst_18 : Ref sig .tc := ⟨.hbm, 130, rfl⟩
abbrev main_v94 : Ref sig .tc := ⟨.hbm, 131, rfl⟩
abbrev main_v95 : Ref sig .tc := ⟨.hbm, 132, rfl⟩
abbrev main_call1_v0 : Ref sig .tc := ⟨.hbm, 133, rfl⟩
abbrev main_call1_v1 : Ref sig .tc := ⟨.hbm, 134, rfl⟩
abbrev main_call1_cst : Ref sig .tc := ⟨.hbm, 135, rfl⟩
abbrev main_call1_v2 : Ref sig .tc := ⟨.hbm, 136, rfl⟩
abbrev main_call1_v3 : Ref sig .tc := ⟨.hbm, 137, rfl⟩
abbrev main_call1_cst_0 : Ref sig .tc := ⟨.hbm, 138, rfl⟩
abbrev main_call1_v4 : Ref sig .tc := ⟨.hbm, 139, rfl⟩
abbrev main_call1_v5 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩

abbrev nD : Nat := 1
abbrev τ : Topo := Topo.v7x

variable {F : FTy → Type} [FloatOps F]
-- ==== Kernel2.lean ====
abbrev S16384x1024 : Shape := ⟨2, ![16384, 1024]⟩
abbrev S1024 : Shape := ⟨1, ![1024]⟩
abbrev S1024x3592 : Shape := ⟨2, ![1024, 3592]⟩
abbrev S_ : Shape := ⟨0, ![]⟩
abbrev S1024x3712 : Shape := ⟨2, ![1024, 3712]⟩
abbrev S1x1024 : Shape := ⟨2, ![1, 1024]⟩
abbrev S16384x512 : Shape := ⟨2, ![16384, 512]⟩
abbrev S16384x128 : Shape := ⟨2, ![16384, 128]⟩
abbrev S512x1024 : Shape := ⟨2, ![512, 1024]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S1024x512 : Shape := ⟨2, ![1024, 512]⟩
abbrev S1024x1024 : Shape := ⟨2, ![1024, 1024]⟩
abbrev S1024x128 : Shape := ⟨2, ![1024, 128]⟩

abbrev nBuf : Space → Nat
  | .hbm => 15
  | .vmem => 18
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3592, .f32⟩
  | .hbm, ⟨3, _⟩ => ⟨S_, .i32⟩
  | .hbm, ⟨4, _⟩ => ⟨S_, .f32⟩
  | .hbm, ⟨5, _⟩ => ⟨S1024x3712, .f32⟩
  | .hbm, ⟨6, _⟩ => ⟨S1024x3712, .bf16⟩
  | .hbm, ⟨7, _⟩ => ⟨S1x1024, .f32⟩
  | .hbm, ⟨8, _⟩ => ⟨S16384x512, .f32⟩
  | .hbm, ⟨9, _⟩ => ⟨S16384x512, .f32⟩
  | .hbm, ⟨10, _⟩ => ⟨S16384x512, .f32⟩
  | .hbm, ⟨11, _⟩ => ⟨S16384x1024, .f32⟩
  | .hbm, ⟨12, _⟩ => ⟨S16384x512, .f32⟩
  | .hbm, ⟨13, _⟩ => ⟨S16384x512, .f32⟩
  | .hbm, ⟨14, _⟩ => ⟨S16384x128, .f32⟩
  | .local _ .vmem, ⟨0, _⟩ => ⟨S512x1024, .f32⟩
  | .local _ .vmem, ⟨1, _⟩ => ⟨S512x1024, .f32⟩
  | .local _ .vmem, ⟨2, _⟩ => ⟨S1024x3712, .bf16⟩
  | .local _ .vmem, ⟨3, _⟩ => ⟨S1x1024, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x1024, .f32⟩
  | .local _ .vmem, ⟨11, _⟩ => ⟨S512x1024, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x128, .f32⟩
  | .local _ .vmem, ⟨17, _⟩ => ⟨S512x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v3_4 : Ref sig .tc := ⟨.hbm, 12, rfl⟩
abbrev main_v3_5 : Ref sig .tc := ⟨.hbm, 13, rfl⟩
abbrev main_v3_6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3712 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference2Ideal.lean ====
abbrev S16384x1024 : Shape := ⟨2, ![16384, 1024]⟩
abbrev S1024 : Shape := ⟨1, ![1024]⟩
abbrev S1024x3592 : Shape := ⟨2, ![1024, 3592]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x3592 : Shape := ⟨2, ![16384, 3592]⟩
abbrev S16384x512 : Shape := ⟨2, ![16384, 512]⟩
abbrev S16384x8 : Shape := ⟨2, ![16384, 8]⟩
abbrev S16384x128 : Shape := ⟨2, ![16384, 128]⟩

abbrev nBuf : Space → Nat
  | .hbm => 30
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3592, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x3592, .f32⟩
  | .hbm, ⟨20, _⟩ => ⟨S16384x512, .f32⟩
  | .hbm, ⟨21, _⟩ => ⟨S16384x512, .f32⟩
  | .hbm, ⟨22, _⟩ => ⟨S16384x512, .f32⟩
  | .hbm, ⟨23, _⟩ => ⟨S16384x1024, .f32⟩
  | .hbm, ⟨24, _⟩ => ⟨S16384x512, .f32⟩
  | .hbm, ⟨25, _⟩ => ⟨S16384x512, .f32⟩
  | .hbm, ⟨26, _⟩ => ⟨S16384x8, .f32⟩
  | .hbm, ⟨27, _⟩ => ⟨S_, .i32⟩
  | .hbm, ⟨28, _⟩ => ⟨S_, .f32⟩
  | .hbm, ⟨29, _⟩ => ⟨S16384x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_c : Ref sig .tc := ⟨.hbm, 27, rfl⟩
abbrev main_call0_v0 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== Kernel3.lean ====
abbrev S8x256x1024 : Shape := ⟨3, ![8, 256, 1024]⟩
abbrev S4x1024 : Shape := ⟨2, ![4, 1024]⟩
abbrev S4x1024x512 : Shape := ⟨3, ![4, 1024, 512]⟩
abbrev S2048x1024 : Shape := ⟨2, ![2048, 1024]⟩
abbrev S1x1024x512 : Shape := ⟨3, ![1, 1024, 512]⟩
abbrev S1024x512 : Shape := ⟨2, ![1024, 512]⟩
abbrev S1024x1024 : Shape := ⟨2, ![1024, 1024]⟩
abbrev S1x1024 : Shape := ⟨2, ![1, 1024]⟩
abbrev S1024 : Shape := ⟨1, ![1024]⟩
abbrev S2048x512 : Shape := ⟨2, ![2048, 512]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S8x256x4x128 : Shape := ⟨4, ![8, 256, 4, 128]⟩
abbrev S1x8x256x4x128 : Shape := ⟨5, ![1, 8, 256, 4, 128]⟩
abbrev S4x8x256x4x128 : Shape := ⟨5, ![4, 8, 256, 4, 128]⟩

abbrev nBuf : Space → Nat
  | .hbm => 67
  | .vmem => 32
  | .smem => 0
  | _ => 0

abbrev bufTy : (tb : Table) → Fin (tcTables nBuf tb) → BufTy
  | .hbm, ⟨0, _⟩ => ⟨S8x256x1024, .f32⟩
  | .hbm, ⟨1, _⟩ => ⟨S4x1024, .f32⟩
  | .hbm, ⟨2, _⟩ => ⟨S4x1024x512, .f32⟩
  | .hbm, ⟨3, _⟩ => ⟨S4x1024x512, .f32⟩
  | .hbm, ⟨4, _⟩ => ⟨S2048x1024, .f32⟩
  | .hbm, ⟨5, _⟩ => ⟨S1x1024x512, .f32⟩
  | .hbm, ⟨6, _⟩ => ⟨S1024x512, .f32⟩
  | .hbm, ⟨7, _⟩ => ⟨S1x1024x512, .f32⟩
  | .hbm, ⟨8, _⟩ => ⟨S1024x512, .f32⟩
  | .hbm, ⟨9, _⟩ => ⟨S1024x1024, .f32⟩
  | .hbm, ⟨10, _⟩ => ⟨S1024x1024, .bf16⟩
  | .hbm, ⟨11, _⟩ => ⟨S1x1024, .f32⟩
  | .hbm, ⟨12, _⟩ => ⟨S1024, .f32⟩
  | .hbm, ⟨13, _⟩ => ⟨S1x1024, .f32⟩
  | .hbm, ⟨14, _⟩ => ⟨S2048x512, .f32⟩
  | .hbm, ⟨15, _⟩ => ⟨S2048x512, .f32⟩
  | .hbm, ⟨16, _⟩ => ⟨S8x256x4x128, .f32⟩
  | .hbm, ⟨17, _⟩ => ⟨S8x256x4x128, .f32⟩
  | .hbm, ⟨18, _⟩ => ⟨S1x1024x512, .f32⟩
  | .hbm, ⟨19, _⟩ => ⟨S1024x512, .f32⟩
  | .hbm, ⟨20, _⟩ => ⟨S1x1024x512, .f32⟩
  | .hbm, ⟨21, _⟩ => ⟨S1024x512, .f32⟩
  | .hbm, ⟨22, _⟩ => ⟨S1024x1024, .f32⟩
  | .hbm, ⟨23, _⟩ => ⟨S1024x1024, .bf16⟩
  | .hbm, ⟨24, _⟩ => ⟨S1x1024, .f32⟩
  | .hbm, ⟨25, _⟩ => ⟨S1024, .f32⟩
  | .hbm, ⟨26, _⟩ => ⟨S1x1024, .f32⟩
  | .hbm, ⟨27, _⟩ => ⟨S2048x512, .f32⟩
  | .hbm, ⟨28, _⟩ => ⟨S2048x512, .f32⟩
  | .hbm, ⟨29, _⟩ => ⟨S8x256x4x128, .f32⟩
  | .hbm, ⟨30, _⟩ => ⟨S8x256x4x128, .f32⟩
  | .hbm, ⟨31, _⟩ => ⟨S1x1024x512, .f32⟩
  | .hbm, ⟨32, _⟩ => ⟨S1024x512, .f32⟩
  | .hbm, ⟨33, _⟩ => ⟨S1x1024x512, .f32⟩
  | .hbm, ⟨34, _⟩ => ⟨S1024x512, .f32⟩
  | .hbm, ⟨35, _⟩ => ⟨S1024x1024, .f32⟩
  | .hbm, ⟨36, _⟩ => ⟨S1024x1024, .bf16⟩
  | .hbm, ⟨37, _⟩ => ⟨S1x1024, .f32⟩
  | .hbm, ⟨38, _⟩ => ⟨S1024, .f32⟩
  | .hbm, ⟨39, _⟩ => ⟨S1x1024, .f32⟩
  | .hbm, ⟨40, _⟩ => ⟨S2048x512, .f32⟩
  | .hbm, ⟨41, _⟩ => ⟨S2048x512, .f32⟩
  | .hbm, ⟨42, _⟩ => ⟨S8x256x4x128, .f32⟩
  | .hbm, ⟨43, _⟩ => ⟨S8x256x4x128, .f32⟩
  | .hbm, ⟨44, _⟩ => ⟨S1x1024x512, .f32⟩
  | .hbm, ⟨45, _⟩ => ⟨S1024x512, .f32⟩
  | .hbm, ⟨46, _⟩ => ⟨S1x1024x512, .f32⟩
  | .hbm, ⟨47, _⟩ => ⟨S1024x512, .f32⟩
  | .hbm, ⟨48, _⟩ => ⟨S1024x1024, .f32⟩
  | .hbm, ⟨49, _⟩ => ⟨S1024x1024, .bf16⟩
  | .hbm, ⟨50, _⟩ => ⟨S1x1024, .f32⟩
  | .hbm, ⟨51, _⟩ => ⟨S1024, .f32⟩
  | .hbm, ⟨52, _⟩ => ⟨S1x1024, .f32⟩
  | .hbm, ⟨53, _⟩ => ⟨S2048x512, .f32⟩
  | .hbm, ⟨54, _⟩ => ⟨S2048x512, .f32⟩
  | .hbm, ⟨55, _⟩ => ⟨S8x256x4x128, .f32⟩
  | .hbm, ⟨56, _⟩ => ⟨S8x256x4x128, .f32⟩
  | .hbm, ⟨57, _⟩ => ⟨S1x8x256x4x128, .f32⟩
  | .hbm, ⟨58, _⟩ => ⟨S1x8x256x4x128, .f32⟩
  | .hbm, ⟨59, _⟩ => ⟨S1x8x256x4x128, .f32⟩
  | .hbm, ⟨60, _⟩ => ⟨S1x8x256x4x128, .f32⟩
  | .hbm, ⟨61, _⟩ => ⟨S4x8x256x4x128, .f32⟩
  | .hbm, ⟨62, _⟩ => ⟨S1x8x256x4x128, .f32⟩
  | .hbm, ⟨63, _⟩ => ⟨S1x8x256x4x128, .f32⟩
  | .hbm, ⟨64, _⟩ => ⟨S1x8x256x4x128, .f32⟩
  | .hbm, ⟨65, _⟩ => ⟨S1x8x256x4x128, .f32⟩
  | .hbm, ⟨66, _⟩ => ⟨S4x8x256x4x128, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1x1024, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x1024, .f32⟩
  | .local _ .vmem, ⟨9, _⟩ => ⟨S512x1024, .f32⟩
  | .local _ .vmem, ⟨10, _⟩ => ⟨S1024x1024, .bf16⟩
  | .local _ .vmem, ⟨11, _⟩ => ⟨S1x1024, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x1024, .f32⟩
  | .local _ .vmem, ⟨17, _⟩ => ⟨S512x1024, .f32⟩
  | .local _ .vmem, ⟨18, _⟩ => ⟨S1024x1024, .bf16⟩
  | .local _ .vmem, ⟨19, _⟩ => ⟨S1x1024, .f32⟩
  | .local _ .vmem, ⟨20, _⟩ => ⟨S512x512, .f32⟩
  | .local _ .vmem, ⟨21, _⟩ => ⟨S512x512, .f32⟩
  | .local _ .vmem, ⟨22, _⟩ => ⟨S512x512, .f32⟩
  | .local _ .vmem, ⟨23, _⟩ => ⟨S512x512, .f32⟩
  | .local _ .vmem, ⟨24, _⟩ => ⟨S512x1024, .f32⟩
  | .local _ .vmem, ⟨25, _⟩ => ⟨S512x1024, .f32⟩
  | .local _ .vmem, ⟨26, _⟩ => ⟨S1024x1024, .bf16⟩
  | .local _ .vmem, ⟨27, _⟩ => ⟨S1x1024, .f32⟩
  | .local _ .vmem, ⟨28, _⟩ => ⟨S512x512, .f32⟩
  | .local _ .vmem, ⟨29, _⟩ => ⟨S512x512, .f32⟩
  | .local _ .vmem, ⟨30, _⟩ => ⟨S512x512, .f32⟩
  | .local _ .vmem, ⟨31, _⟩ => ⟨S512x512, .f32⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10_0 : Ref sig .tc := ⟨.hbm, 14, rfl⟩
abbrev main_v10_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22_0 : Ref sig .tc := ⟨.hbm, 27, rfl⟩
abbrev main_v22_1 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34_0 : Ref sig .tc := ⟨.hbm, 40, rfl⟩
abbrev main_v34_1 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46_0 : Ref sig .tc := ⟨.hbm, 53, rfl⟩
abbrev main_v46_1 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_stg4_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg3_1 : Ref sig .tc := ⟨.vmem, 29, rfl⟩
abbrev cc3_stg4_0 : Ref sig .tc := ⟨.vmem, 30, rfl⟩
abbrev cc3_stg4_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem3_1 : DmaSem sig := 21
abbrev cc2_sem4_0 : DmaSem sig := 22
abbrev cc2_sem4_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem3_1 : DmaSem sig := 29
abbrev cc3_sem4_0 : DmaSem sig := 30
abbrev cc3_sem4_1 : DmaSem sig := 31

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S512x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1024x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S512x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S512x512 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]
-- ==== Reference3Ideal.lean ====
abbrev S8x256x1024 : Shape := ⟨3, ![8, 256, 1024]⟩
abbrev S4x1024 : Shape := ⟨2, ![4, 1024]⟩
abbrev S4x1024x512 : Shape := ⟨3, ![4, 1024, 512]⟩
abbrev S1x8x256x1024 : Shape := ⟨4, ![1, 8, 256, 1024]⟩
abbrev S4x1x1x1024 : Shape := ⟨4, ![4, 1, 1, 1024]⟩
abbrev S_ : Shape := ⟨0, ![]⟩
abbrev S1x8x256 : Shape := ⟨3, ![1, 8, 256]⟩
abbrev S1x8x256x1 : Shape := ⟨4, ![1, 8, 256, 1]⟩
abbrev S4x8x256x1024 : Shape := ⟨4, ![4, 8, 256, 1024]⟩
abbrev S4x8x256x512 : Shape := ⟨4, ![4, 8, 256, 512]⟩
abbrev S4x8x256x4x128 : Shape := ⟨5, ![4, 8, 256, 4, 128]⟩

abbrev nBuf : Space → Nat
  | .hbm => 26
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S4x1024, .f32⟩
  | .hbm, ⟨2, _⟩ => ⟨S4x1024x512, .f32⟩
  | .hbm, ⟨3, _⟩ => ⟨S4x1024x512, .f32⟩
  | .hbm, ⟨4, _⟩ => ⟨S1x8x256x1024, .f32⟩
  | .hbm, ⟨5, _⟩ => ⟨S4x1x1x1024, .f32⟩
  | .hbm, ⟨6, _⟩ => ⟨S1x8x256x1024, .f32⟩
  | .hbm, ⟨7, _⟩ => ⟨S_, .f32⟩
  | .hbm, ⟨8, _⟩ => ⟨S1x8x256, .f32⟩
  | .hbm, ⟨9, _⟩ => ⟨S1x8x256x1, .f32⟩
  | .hbm, ⟨10, _⟩ => ⟨S_, .f32⟩
  | .hbm, ⟨11, _⟩ => ⟨S1x8x256x1, .f32⟩
  | .hbm, ⟨12, _⟩ => ⟨S1x8x256x1, .f32⟩
  | .hbm, ⟨13, _⟩ => ⟨S_, .f32⟩
  | .hbm, ⟨14, _⟩ => ⟨S1x8x256x1, .f32⟩
  | .hbm, ⟨15, _⟩ => ⟨S1x8x256x1, .f32⟩
  | .hbm, ⟨16, _⟩ => ⟨S1x8x256x1, .f32⟩
  | .hbm, ⟨17, _⟩ => ⟨S1x8x256x1024, .f32⟩
  | .hbm, ⟨18, _⟩ => ⟨S1x8x256x1024, .f32⟩
  | .hbm, ⟨19, _⟩ => ⟨S4x8x256x1024, .f32⟩
  | .hbm, ⟨20, _⟩ => ⟨S4x8x256x1024, .f32⟩
  | .hbm, ⟨21, _⟩ => ⟨S4x8x256x1024, .f32⟩
  | .hbm, ⟨22, _⟩ => ⟨S4x8x256x512, .f32⟩
  | .hbm, ⟨23, _⟩ => ⟨S4x8x256x512, .f32⟩
  | .hbm, ⟨24, _⟩ => ⟨S4x8x256x4x128, .f32⟩
  | .hbm, ⟨25, _⟩ => ⟨S4x8x256x4x128, .f32⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Kernel4.lean ====
abbrev S16384x1024 : Shape := ⟨2, ![16384, 1024]⟩
abbrev S1024 : Shape := ⟨1, ![1024]⟩
abbrev S1024x512 : Shape := ⟨2, ![1024, 512]⟩
abbrev S512x1024 : Shape := ⟨2, ![512, 1024]⟩
abbrev S8x256x4x128 : Shape := ⟨4, ![8, 256, 4, 128]⟩
abbrev S8x256x512 : Shape := ⟨3, ![8, 256, 512]⟩
abbrev S1x1024 : Shape := ⟨2, ![1, 1024]⟩
abbrev S1x256x512 : Shape := ⟨3, ![1, 256, 512]⟩
abbrev S512 : Shape := ⟨1, ![512]⟩
abbrev S512x1 : Shape := ⟨2, ![512, 1]⟩
abbrev S512x512 : Shape := ⟨2, ![512, 512]⟩
abbrev S512x128 : Shape := ⟨2, ![512, 128]⟩
abbrev S1x256x128 : Shape := ⟨3, ![1, 256, 128]⟩
abbrev S256x128 : Shape := ⟨2, ![256, 128]⟩
abbrev S512x256 : Shape := ⟨2, ![512, 256]⟩

abbrev nBuf : Space → Nat
  | .hbm => 12
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x512, .f32⟩
  | .hbm, ⟨3, _⟩ => ⟨S512x1024, .f32⟩
  | .hbm, ⟨4, _⟩ => ⟨S8x256x4x128, .f32⟩
  | .hbm, ⟨5, _⟩ => ⟨S8x256x4x128, .f32⟩
  | .hbm, ⟨6, _⟩ => ⟨S1024x512, .bf16⟩
  | .hbm, ⟨7, _⟩ => ⟨S512x1024, .bf16⟩
  | .hbm, ⟨8, _⟩ => ⟨S8x256x512, .f32⟩
  | .hbm, ⟨9, _⟩ => ⟨S8x256x512, .f32⟩
  | .hbm, ⟨10, _⟩ => ⟨S1x1024, .f32⟩
  | .hbm, ⟨11, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x512, .bf16⟩
  | .local _ .vmem, ⟨4, _⟩ => ⟨S512x1024, .bf16⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | .local _ .vmem, ⟨8, _⟩ => ⟨S1x256x512, .f32⟩
  | .local _ .vmem, ⟨9, _⟩ => ⟨S512x1024, .f32⟩
  | .local _ .vmem, ⟨10, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel4Ideal.lean ====
variable {F : FTy → Type} [FloatOps F] [Named F]
def κ : String → Option EReal := fun
  | "cross_scale" => some (((Real.log 2)⁻¹ * (Real.sqrt 128)⁻¹ : ℝ) : EReal)
  | _ => none
-- ==== Reference4Ideal.lean ====
abbrev S16384x1024 : Shape := ⟨2, ![16384, 1024]⟩
abbrev S1024 : Shape := ⟨1, ![1024]⟩
abbrev S1024x512 : Shape := ⟨2, ![1024, 512]⟩
abbrev S512x1024 : Shape := ⟨2, ![512, 1024]⟩
abbrev S8x256x4x128 : Shape := ⟨4, ![8, 256, 4, 128]⟩
abbrev S8x2048x1024 : Shape := ⟨3, ![8, 2048, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x512 : Shape := ⟨3, ![8, 2048, 512]⟩
abbrev S8x2048x4x128 : Shape := ⟨4, ![8, 2048, 4, 128]⟩
abbrev S8x4x2048x256 : Shape := ⟨4, ![8, 4, 2048, 256]⟩
abbrev S8x4x2048 : Shape := ⟨3, ![8, 4, 2048]⟩
abbrev S8x4x2048x1 : Shape := ⟨4, ![8, 4, 2048, 1]⟩
abbrev S8x4x128x2048 : Shape := ⟨4, ![8, 4, 128, 2048]⟩

abbrev nBuf : Space → Nat
  | .hbm => 50
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x512, .f32⟩
  | .hbm, ⟨3, _⟩ => ⟨S512x1024, .f32⟩
  | .hbm, ⟨4, _⟩ => ⟨S8x256x4x128, .f32⟩
  | .hbm, ⟨5, _⟩ => ⟨S8x256x4x128, .f32⟩
  | .hbm, ⟨6, _⟩ => ⟨S8x2048x1024, .f32⟩
  | .hbm, ⟨7, _⟩ => ⟨S8x2048x1024, .f32⟩
  | .hbm, ⟨8, _⟩ => ⟨S_, .f32⟩
  | .hbm, ⟨9, _⟩ => ⟨S8x2048, .f32⟩
  | .hbm, ⟨10, _⟩ => ⟨S8x2048x1, .f32⟩
  | .hbm, ⟨11, _⟩ => ⟨S_, .f32⟩
  | .hbm, ⟨12, _⟩ => ⟨S8x2048x1, .f32⟩
  | .hbm, ⟨13, _⟩ => ⟨S8x2048x1, .f32⟩
  | .hbm, ⟨14, _⟩ => ⟨S_, .f32⟩
  | .hbm, ⟨15, _⟩ => ⟨S8x2048x1, .f32⟩
  | .hbm, ⟨16, _⟩ => ⟨S8x2048x1, .f32⟩
  | .hbm, ⟨17, _⟩ => ⟨S8x2048x1, .f32⟩
  | .hbm, ⟨18, _⟩ => ⟨S8x2048x1024, .f32⟩
  | .hbm, ⟨19, _⟩ => ⟨S8x2048x1024, .f32⟩
  | .hbm, ⟨20, _⟩ => ⟨S1x1x1024, .f32⟩
  | .hbm, ⟨21, _⟩ => ⟨S8x2048x1024, .f32⟩
  | .hbm, ⟨22, _⟩ => ⟨S8x2048x1024, .f32⟩
  | .hbm, ⟨23, _⟩ => ⟨S8x2048x512, .f32⟩
  | .hbm, ⟨24, _⟩ => ⟨S8x2048x4x128, .f32⟩
  | .hbm, ⟨25, _⟩ => ⟨S8x4x2048x256, .f32⟩
  | .hbm, ⟨26, _⟩ => ⟨S_, .f32⟩
  | .hbm, ⟨27, _⟩ => ⟨S_, .f32⟩
  | .hbm, ⟨28, _⟩ => ⟨S8x4x2048x256, .f32⟩
  | .hbm, ⟨29, _⟩ => ⟨S8x4x2048x256, .f32⟩
  | .hbm, ⟨30, _⟩ => ⟨S_, .f32⟩
  | .hbm, ⟨31, _⟩ => ⟨S8x4x2048, .f32⟩
  | .hbm, ⟨32, _⟩ => ⟨S_, .f32⟩
  | .hbm, ⟨33, _⟩ => ⟨S8x4x2048, .f32⟩
  | .hbm, ⟨34, _⟩ => ⟨S8x4x2048, .f32⟩
  | .hbm, ⟨35, _⟩ => ⟨S8x4x2048x1, .f32⟩
  | .hbm, ⟨36, _⟩ => ⟨S8x4x2048x256, .f32⟩
  | .hbm, ⟨37, _⟩ => ⟨S8x4x2048x256, .f32⟩
  | .hbm, ⟨38, _⟩ => ⟨S8x4x2048x256, .f32⟩
  | .hbm, ⟨39, _⟩ => ⟨S_, .f32⟩
  | .hbm, ⟨40, _⟩ => ⟨S8x4x2048, .f32⟩
  | .hbm, ⟨41, _⟩ => ⟨S8x4x2048x1, .f32⟩
  | .hbm, ⟨42, _⟩ => ⟨S8x4x2048x256, .f32⟩
  | .hbm, ⟨43, _⟩ => ⟨S8x4x2048x256, .f32⟩
  | .hbm, ⟨44, _⟩ => ⟨S8x4x128x2048, .f32⟩
  | .hbm, ⟨45, _⟩ => ⟨S8x2048x4x128, .f32⟩
  | .hbm, ⟨46, _⟩ => ⟨S8x2048x512, .f32⟩
  | .hbm, ⟨47, _⟩ => ⟨S8x2048x1024, .f32⟩
  | .hbm, ⟨48, _⟩ => ⟨S8x2048x1024, .f32⟩
  | .hbm, ⟨49, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Kernel5.lean ====
abbrev S16384x512 : Shape := ⟨2, ![16384, 512]⟩
abbrev S1024x1024 : Shape := ⟨2, ![1024, 1024]⟩
abbrev S16384x1024 : Shape := ⟨2, ![16384, 1024]⟩
abbrev S512x1024 : Shape := ⟨2, ![512, 1024]⟩
abbrev S512x512 : Shape := ⟨2, ![512, 512]⟩

abbrev nBuf : Space → Nat
  | .hbm => 8
  | .vmem => 10
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S1024x1024, .f32⟩
  | .hbm, ⟨3, _⟩ => ⟨S16384x1024, .f32⟩
  | .hbm, ⟨4, _⟩ => ⟨S1024x1024, .bf16⟩
  | .hbm, ⟨5, _⟩ => ⟨S512x1024, .bf16⟩
  | .hbm, ⟨6, _⟩ => ⟨S512x1024, .bf16⟩
  | .hbm, ⟨7, _⟩ => ⟨S16384x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference5Ideal.lean ====
abbrev S16384x512 : Shape := ⟨2, ![16384, 512]⟩
abbrev S1024x1024 : Shape := ⟨2, ![1024, 1024]⟩
abbrev S16384x1024 : Shape := ⟨2, ![16384, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S1024x1024, .f32⟩
  | .hbm, ⟨3, _⟩ => ⟨S16384x1024, .f32⟩
  | .hbm, ⟨4, _⟩ => ⟨S16384x1024, .f32⟩
  | .hbm, ⟨5, _⟩ => ⟨S16384x1024, .f32⟩
  | .hbm, ⟨6, _⟩ => ⟨S16384x1024, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== Kernel6.lean ====
abbrev S16384x1024 : Shape := ⟨2, ![16384, 1024]⟩
abbrev S1024x1024 : Shape := ⟨2, ![1024, 1024]⟩
abbrev S512x1024 : Shape := ⟨2, ![512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .f32⟩
  | .hbm, ⟨3, _⟩ => ⟨S1024x1024, .bf16⟩
  | .hbm, ⟨4, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S16384x1024 : Shape := ⟨2, ![16384, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .f32⟩
  | .hbm, ⟨3, _⟩ => ⟨S16384x1024, .f32⟩
  | .hbm, ⟨4, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Proof.Select.lean ====
/- Which entry of a short list a top-k selection takes: the greatest, the earliest of equals, and then the same among the rest. -/
module

public import proofs.«01_k».proof.Proof.Gen.ReferenceIdeal.Read
public import Idealize.ShloMosaic.Lib.Pipeline.ValueKit

@[expose] public section

set_option maxRecDepth 16384

noncomputable section

namespace Cert.Proof

open Idealize.ShloMosaic

/-- Position `k` satisfies `p`, no position that does holds a greater value, and none before `k` holds an equal one. -/
def IsFirst {n : ℕ} (v : Fin n → EReal) (p : Fin n → Prop) (k : Fin n) : Prop :=
  p k ∧ (∀ l, p l → v l ≤ v k) ∧ ∀ l, p l → v l = v k → k ≤ l

/-- How many of the four entries are smaller than entry `i`: a whole number that orders the entries as their values do. -/
def rank4 (v : Fin 4 → EReal) (i : Fin 4) : Fin 5 :=
  ⟨(Finset.univ.filter fun l => v l < v i).card, Nat.lt_succ_of_le ((Finset.card_le_univ _).trans (by simp))⟩

theorem rank4_le (v : Fin 4 → EReal) (i j : Fin 4) (h : v i ≤ v j) : rank4 v i ≤ rank4 v j := by
  refine Fin.mk_le_mk.mpr (Finset.card_le_card fun l hl => ?_)
  simp only [Finset.mem_filter, Finset.mem_univ, true_and] at hl ⊢
  exact hl.trans_le h

theorem rank4_lt_iff (v : Fin 4 → EReal) (i j : Fin 4) : rank4 v i < rank4 v j ↔ v i < v j := by
  constructor
  · intro h
    by_contra hn
    exact absurd (rank4_le v j i (not_lt.mp hn)) (not_le.mpr h)
  · intro h
    refine Fin.mk_lt_mk.mpr (Finset.card_lt_card ?_)
    rw [Finset.ssubset_iff_of_subset (fun l hl => by
      simp only [Finset.mem_filter, Finset.mem_univ, true_and] at hl ⊢
      exact hl.trans h)]
    exact ⟨i, by simpa using h, by simp⟩

/-- The first two positions of a stable sort of four whole numbers, greatest first, by trying all of them. -/
theorem sorted4 : ∀ k : Fin 4 → Fin 5,
    let s := sortedFrom (fun a b : Fin 4 => decide (k b < k a))
    (∀ l, k l ≤ k (s 0)) ∧ (∀ l, k l = k (s 0) → s 0 ≤ l) ∧ s 1 ≠ s 0
      ∧ (∀ l, l ≠ s 0 → k l ≤ k (s 1)) ∧ ∀ l, l ≠ s 0 → k l = k (s 1) → s 1 ≤ l := by
  decide +kernel

/-- The order in which a stable sort, greatest first, puts four values. -/
def order4 (v : Fin 4 → EReal) : Fin 4 → Fin 4 := sortedFrom (fun a b : Fin 4 => decide (v b < v a))

theorem order4_first (v : Fin 4 → EReal) :
    IsFirst v (fun _ => True) (order4 v 0) ∧ IsFirst v (fun l => l ≠ order4 v 0) (order4 v 1) := by
  have e : order4 v = sortedFrom (fun a b : Fin 4 => decide (rank4 v b < rank4 v a)) := by
    unfold order4
    congr 1
    funext a b
    exact decide_eq_decide.mpr (rank4_lt_iff v b a).symm
  have key := sorted4 (rank4 v)
  simp only [← e] at key
  have le_iff : ∀ i j, rank4 v i ≤ rank4 v j ↔ v i ≤ v j := fun i j => by
    rw [← not_lt, ← not_lt, rank4_lt_iff]
  have eq_of : ∀ i j, v i = v j → rank4 v i = rank4 v j := fun i j h =>
    le_antisymm (rank4_le v i j h.le) (rank4_le v j i h.ge)
  obtain ⟨h1, h2, h3, h4, h5⟩ := key
  exact ⟨⟨trivial, fun l _ => (le_iff _ _).mp (h1 l), fun l _ h => h2 l (eq_of _ _ h)⟩,
    h3, fun l hl => (le_iff _ _).mp (h4 l hl), fun l hl h => h5 l hl (eq_of _ _ h)⟩

open Cert.ReferenceIdeal Cert.ReferenceIdeal.Gen

theorem order4_eq (v : Fin 4 → EReal) :
    sortedFrom (fun a b : Fin 4 => (FloatOps.cmpfTotal (F := Ideal) (φ := .f32) .gt (v a) (v b) : BitVec 1) == 1#1) = order4 v := by
  unfold order4
  congr 1
  funext a b
  rw [Ideal.cmpfTotal_def]
  by_cases h : v b < v a <;> simp [Ideal.cmp, CmpDirection.ordered, h]

theorem along_row {A B : ℕ} (a : Fin A) (b k : Fin B) :
    Shape.Idx.along (s := ⟨2, ![A, B]⟩) (ix2 a b) 1 k = ix2 a k := by
  funext d
  match d with
  | ⟨0, _⟩ => rfl
  | ⟨1, _⟩ => rfl

/-- The one greatest of each row of four: where it stands. -/
theorem top1_index (x : FVec Ideal S16384x4 .f32) (r : Fin 16384) :
    (Host.topK S16384x1 1 (FloatOps.cmpfTotal .gt) x sliceFits_S16384x4_S16384x1).2 (ix2 r 0)
      = BitVec.ofNat 32 (order4 (fun l => x (ix2 r l)) 0).val := by
  rw [← order4_eq]
  simp only [Host.topK, Host.sort2]
  pointwise
  simp only [along_row]
  rfl

/-- The two greatest of each row of four: where they stand. -/
theorem top2_index (x : FVec Ideal S16384x4 .f32) (r : Fin 16384) (k : Fin 2) :
    (Host.topK S16384x2 1 (FloatOps.cmpfTotal .gt) x sliceFits_S16384x4_S16384x2).2 (ix2 r k)
      = BitVec.ofNat 32 (order4 (fun l => x (ix2 r l)) (k.castLE (by decide))).val := by
  rw [← order4_eq]
  simp only [Host.topK, Host.sort2]
  pointwise
  simp only [along_row]
  rfl

/-- The two greatest of each row of four, greater first. -/
theorem top2_value (x : FVec Ideal S16384x4 .f32) (r : Fin 16384) (k : Fin 2) :
    (Host.topK S16384x2 1 (FloatOps.cmpfTotal .gt) x sliceFits_S16384x4_S16384x2).1 (ix2 r k)
      = x (ix2 r (order4 (fun l => x (ix2 r l)) (k.castLE (by decide)))) := by
  rw [← order4_eq]
  simp only [Host.topK, Host.sort2]
  pointwise
  simp only [along_row]
  rfl

end Cert.Proof
-- ==== Proof.Lanes.lean ====
/- One token's routing on lanes, free of any program: the greatest of some lanes and the first lane that holds it, and the
   sixteen gates that the router's definition gives. -/
module

public import proofs.«01_k».proof.Proof.Select

@[expose] public section

set_option maxRecDepth 16384

noncomputable section

namespace Cert.Proof

open Idealize.ShloMosaic

/-- A lane's number as an extended real. -/
def laneE {n : ℕ} (l : Fin n) : EReal := ((l.val : ℝ) : EReal)

theorem laneE_inj {n : ℕ} (l k : Fin n) : laneE l = laneE k ↔ l = k := by
  unfold laneE
  rw [EReal.coe_eq_coe_iff, Nat.cast_inj, Fin.ext_iff]

theorem laneE_le {n : ℕ} {l k : Fin n} : laneE l ≤ laneE k ↔ l ≤ k := by
  unfold laneE
  rw [EReal.coe_le_coe_iff, Nat.cast_le, Fin.le_def]

theorem ofBits_negInf : Ideal.ofBits .f32 4286578688#32 = ⊥ := by
  simp [Ideal.ofBits, Ideal.ieee]
theorem ofBits_posInf : Ideal.ofBits .f32 2139095040#32 = ⊤ := by
  simp [Ideal.ofBits, Ideal.ieee]
theorem ofBits_four : Ideal.ofBits .f32 1082130432#32 = ((4 : ℝ) : EReal) := by
  simp [Ideal.ofBits, Ideal.ieee]; rw [← EReal.coe_mul]; norm_num
theorem ofBits_billion : Ideal.ofBits .f32 1315859240#32 = ((1000000000 : ℝ) : EReal) := by
  simp [Ideal.ofBits, Ideal.ieee]; rw [← EReal.coe_pow, ← EReal.coe_mul]; norm_num
theorem ofBits_1024 : Ideal.ofBits .f32 1149239296#32 = ((1024 : ℝ) : EReal) := by
  simp [Ideal.ofBits, Ideal.ieee]; rw [← EReal.coe_mul]; norm_num
theorem ofBits_eps : ∃ r : ℝ, 0 < r ∧ Ideal.ofBits .f32 897988541#32 = (r : EReal) := by
  refine ⟨8796093 * ((2 : ℝ) ^ 43)⁻¹, by positivity, ?_⟩
  simp [Ideal.ofBits, Ideal.ieee]

theorem sitofp_lane (l : Fin 128) : FloatOps.sitofp (F := Ideal) FTy.f32 (BitVec.ofNat 32 l.val) = laneE l := by
  show (((BitVec.ofNat 32 l.val).toInt : ℝ) : EReal) = _
  have h : (BitVec.ofNat 32 l.val).toInt = (l.val : ℤ) := by
    rw [BitVec.toInt_eq_toNat_cond, BitVec.toNat_ofNat]
    have := l.isLt
    omega
  rw [h]
  simp [laneE]

theorem select_ofBool {α : Type} (b : Bool) (x y : α) : Scalar.select (BitVec.ofBool b) x y = if b = true then x else y := by
  cases b <;> rfl

theorem andi_ofBool (a b : Bool) : IntOp.andi (BitVec.ofBool a) (BitVec.ofBool b) = BitVec.ofBool (a && b) := by
  cases a <;> cases b <;> rfl

/-- The greatest of the lanes that satisfy `P`, the others read as `−∞`. -/
def maxOf {n : ℕ} (P : Fin n → Prop) [DecidablePred P] (v : Fin n → EReal) : EReal :=
  Finset.univ.fold max ⊥ fun l => if P l then v l else ⊥

/-- The first lane that satisfies `P`, as a number: the least of the lane numbers, a billion where `P` fails. -/
def firstOf {n : ℕ} (P : Fin n → Prop) [DecidablePred P] : EReal :=
  Finset.univ.fold min ⊤ fun l => if P l then laneE l else ((1000000000 : ℝ) : EReal)

theorem maxOf_eq {n : ℕ} (P : Fin n → Prop) [DecidablePred P] (v : Fin n → EReal) (k : Fin n) (h : IsFirst v P k) :
    maxOf P v = v k := by
  refine le_antisymm ?_ ?_
  · refine (Finset.fold_max_le (v k)).mpr ⟨bot_le, fun l _ => ?_⟩
    by_cases hl : P l
    · simpa [hl] using h.2.1 l hl
    · simp [hl]
  · refine (Finset.le_fold_max (v k)).mpr (Or.inr ⟨k, Finset.mem_univ _, ?_⟩)
    simp [h.1]

theorem firstOf_eq {n : ℕ} (hn : n ≤ 1000) (P : Fin n → Prop) [DecidablePred P] (k : Fin n) (hk : P k)
    (h : ∀ l, P l → k ≤ l) : firstOf P = laneE k := by
  refine le_antisymm ?_ ?_
  · refine (Finset.fold_min_le (laneE k)).mpr (Or.inr ⟨k, Finset.mem_univ _, ?_⟩)
    simp [hk]
  · refine (Finset.le_fold_min (laneE k)).mpr ⟨le_top, fun l _ => ?_⟩
    by_cases hl : P l
    · simpa [hl] using laneE_le.mpr (h l hl)
    · simp only [hl, if_false]
      unfold laneE
      rw [EReal.coe_le_coe_iff]
      have : k.val ≤ 1000 := by have := k.isLt; omega
      have : (k.val : ℝ) ≤ 1000 := by exact_mod_cast this
      linarith

/-- The first lane at which the greatest of the lanes with `P` stands. -/
theorem first_at_max {n : ℕ} (hn : n ≤ 1000) (P : Fin n → Prop) [DecidablePred P] (v : Fin n → EReal) (k : Fin n)
    (h : IsFirst v P k) : firstOf (fun l => P l ∧ (if P l then v l else ⊥) = maxOf P v) = laneE k := by
  refine firstOf_eq hn _ k ⟨h.1, ?_⟩ fun l hl => h.2.2 l hl.1 ?_
  · rw [maxOf_eq P v k h, if_pos h.1]
  · have := hl.2
    rwa [maxOf_eq P v k h, if_pos hl.1] at this

/-- The gates of one token from its four group scores `g` and its sixteen expert scores `r`: the best group (the first of
    equals) with its softmax weight, in it the best two experts, weighted by the softmax of their two scores; the others
    get nothing. -/
def tokenGate (g : Fin 4 → EReal) (r : Fin 16 → EReal) (e : Fin 16) : EReal :=
  let G := order4 g 0
  let el : Fin 4 → EReal := fun j => r ⟨4 * G.val + j.val, by omega⟩
  let a := order4 el 0
  let b := order4 el 1
  let d := Ideal.exp (el b - el a)
  Ideal.div 1 (∑ j, Ideal.exp (g j - g G))
    * ((if e.val = 4 * G.val + a.val then Ideal.div 1 (1 + d) else 0)
      + (if e.val = 4 * G.val + b.val then Ideal.div d (1 + d) else 0))

end Cert.Proof
-- ==== Proof.Spec.lean ====
/- The layer's mathematics, entry by entry: the normed token, the two routers' scores, the gates, one expert's term and
   the result. -/
module

public import proofs.«01_k».proof.Proof.Lanes

@[expose] public section

set_option maxRecDepth 16384

noncomputable section

namespace Cert.Proof

open Idealize.ShloMosaic Cert.ReferenceIdeal

/-- The layer's nine arguments, in the order of the program's. -/
structure Args where
  /-- The tokens. -/
  x : FVec Ideal S16384x1024 .f32
  /-- The norm's gain. -/
  gain : FVec Ideal S1024 .f32
  /-- The group router's weights. -/
  wGroup : FVec Ideal S1024x4 .f32
  /-- The group router's bias. -/
  bGroup : FVec Ideal S4 .f32
  /-- The expert router's weights. -/
  wRouter : FVec Ideal S1024x16 .f32
  /-- The expert router's bias. -/
  bRouter : FVec Ideal S16 .f32
  /-- The experts' up projections. -/
  wUp : FVec Ideal S4x16x1024x256 .f32
  /-- The experts' gate projections. -/
  wGate : FVec Ideal S4x16x1024x256 .f32
  /-- The experts' down projections. -/
  wDown : FVec Ideal S4x16x256x1024 .f32

namespace Args

variable (a : Args) (t : Fin 16384)

/-- Token `t` normed: divided by the root of its mean square, with a small constant added to it, and scaled by the gain. -/
def normed (d : Fin 1024) : EReal :=
  a.x (ix2 t d) * Ideal.rsqrt (Ideal.div (∑ k, a.x (ix2 t k) * a.x (ix2 t k)) (Ideal.ofBits .f32 1149239296#32)
    + Ideal.ofBits .f32 897988541#32) * a.gain (ix1 d)

/-- Token `t`'s score of group `j`. -/
def groupScore (j : Fin 4) : EReal := ∑ d, a.normed t d * a.wGroup (ix2 d j) + a.bGroup (ix1 j)

/-- Token `t`'s score of expert `e`. -/
def expertScore (e : Fin 16) : EReal := ∑ d, a.normed t d * a.wRouter (ix2 d e) + a.bRouter (ix1 e)

/-- Token `t`'s gate of expert `e`. -/
def gate (e : Fin 16) : EReal := tokenGate (a.groupScore t) (a.expertScore t) e

/-- Entry `f` of expert `e`'s gated linear unit at token `t`. -/
def hidden (e : Fin 16) (f : Fin 256) : EReal :=
  (∑ d, a.normed t d * a.wGate (ix4 0 e d f)) * Ideal.div 1 (1 + Ideal.exp (0 - ∑ d, a.normed t d * a.wGate (ix4 0 e d f)))
    * ∑ d, a.normed t d * a.wUp (ix4 0 e d f)

/-- What expert `e` adds to entry `d` of token `t`. -/
def expertTerm (e : Fin 16) (d : Fin 1024) : EReal := ∑ f, (a.hidden t e f * a.gate t e) * a.wDown (ix4 0 e f d)

/-- Entry `d` of the layer's result at token `t`. -/
def result (d : Fin 1024) : EReal := a.x (ix2 t d) + ∑ e, a.expertTerm t e d

end Args

end Cert.Proof
-- ==== Proof.Gate.lean ====
/- What the kernel's routing leaves of one row block's gates: row by row, each lane's gate is the router's definition. -/
module

public import proofs.«01_k».proof.Proof.Lanes
public import proofs.«01_k».proof.Proof.Gen.KernelIdeal.Value

@[expose] public section

set_option maxRecDepth 16384

noncomputable section

namespace Cert.Proof

open Idealize.ShloMosaic Idealize.ShloMosaic.TcCoe Idealize.SL.Sem
open Cert.KernelIdeal Cert.KernelIdeal.Gen

/-- The gates of a block from its tokens `x`, the norm's gain `g` and the router's weights `w` and bias `b`. -/
def gateOf (x : Vec Ideal S1024x1024 .f32) (g : Vec Ideal S1x1024 .f32) (w : Vec Ideal S1024x128 .bf16)
    (b : Vec Ideal S1x128 .f32) : FVec Ideal S1024x128 .f32 :=
  let L := k0_pay4 x g w b
  let N := k0_pay5 (F := Ideal)
  let A := k0_pay9 x g w b
  k0_pay18 N (k0_pay10 (k0_pay6 (F := Ideal)) (k0_pay7 x g w b) (k0_pay8 x g w b)) (k0_pay13 L N A) (k0_pay14 L N A)
    (k0_pay16 L N A) (k0_pay17 L N A)

variable (x : Vec Ideal S1024x1024 .f32) (g : Vec Ideal S1x1024 .f32) (w : Vec Ideal S1024x128 .bf16) (b : Vec Ideal S1x128 .f32)

theorem pay5_apply (r : Fin 1024) (l : Fin 128) : k0_pay5 (F := Ideal) (ix2 r l) = laneE l := by
  pointwise [k0_pay5]
  exact sitofp_lane l

theorem lane_lt_four (l : Fin 128) : laneE l < ((4 : ℝ) : EReal) ↔ l.val < 4 := by
  unfold laneE
  rw [EReal.coe_lt_coe_iff]
  exact_mod_cast Iff.rfl

/-- Lanes 0 to 3 hold the group scores. -/
abbrev isGroup (l : Fin 128) : Prop := l.val < 4

theorem pay6_apply (r : Fin 1024) (l : Fin 128) : k0_pay6 (F := Ideal) (ix2 r l) = BitVec.ofBool (decide (isGroup l)) := by
  pointwise [k0_pay6]
  rw [pay5_apply, ofBits_four]
  exact congrArg BitVec.ofBool (decide_eq_decide.mpr (lane_lt_four l))

/-- The scores of row `r`, one in each lane. -/
abbrev scores (r : Fin 1024) (l : Fin 128) : EReal := k0_pay4 x g w b (ix2 r l)

theorem pay7_apply (r : Fin 1024) (l : Fin 128) :
    k0_pay7 x g w b (ix2 r l) = if isGroup l then scores x g w b r l else ⊥ := by
  pointwise [k0_pay7]
  rw [pay6_apply, ofBits_negInf, select_ofBool]
  simp only [decide_eq_true_eq]

theorem pay8_apply (r : Fin 1024) : k0_pay8 x g w b (ix2 r 0) = maxOf isGroup (scores x g w b r) := by
  pointwise [k0_pay8]
  rw [ofBits_negInf]
  exact congrArg (fun f => Finset.univ.fold max ⊥ f) (funext fun l => pay7_apply x g w b r l)

theorem pay9_apply (r : Fin 1024) (l : Fin 128) :
    k0_pay9 x g w b (ix2 r l) = if isGroup l ∧ (if isGroup l then scores x g w b r l else ⊥) = maxOf isGroup (scores x g w b r)
      then laneE l else ((1000000000 : ℝ) : EReal) := by
  pointwise [k0_pay9]
  rw [pay6_apply, pay5_apply, ofBits_billion, andi_ofBool, select_ofBool, pay7_apply, pay8_apply]
  simp only [Bool.and_eq_true, decide_eq_true_eq]

theorem pay10_apply (r : Fin 1024) :
    k0_pay10 (k0_pay6 (F := Ideal)) (k0_pay7 x g w b) (k0_pay8 x g w b) (ix2 r 0)
      = Ideal.div 1 (∑ l : Fin 128, if isGroup l then
          Ideal.exp (scores x g w b r l - maxOf isGroup (scores x g w b r)) else 0) := by
  pointwise [k0_pay10]
  refine congrArg (Ideal.div 1) (Finset.sum_congr rfl fun l _ => ?_)
  rw [pay6_apply, select_ofBool, pay7_apply, pay8_apply]
  by_cases h : isGroup l <;> simp [h]

/-- A sum over the lanes of the groups only. -/
theorem sum_groups (f : Fin 128 → EReal) :
    (∑ l : Fin 128, if isGroup l then f l else 0) = ∑ j : Fin 4, f (j.castLE (by decide)) := by
  rw [← Finset.sum_filter]
  symm
  refine Finset.sum_bij (fun (j : Fin 4) _ => (j.castLE (by decide) : Fin 128)) ?_ ?_ ?_ ?_
  · intro j _; simp [isGroup]
  · intro a _ b _ h; simpa [Fin.ext_iff] using h
  · intro l hl; exact ⟨⟨l.val, by simpa [isGroup] using hl⟩, Finset.mem_univ _, rfl⟩
  · intro j _; rfl

/-- The lanes of group `G`'s four experts. -/
abbrev inGrp (G : Fin 4) (l : Fin 128) : Prop := 4 * G.val + 4 ≤ l.val ∧ l.val < 4 * G.val + 8

/-- Picking on lanes: a first greatest among four, carried to the lanes that hold the four. -/
theorem IsFirst.lanes {v : Fin 128 → EReal} {q : Fin 4 → Prop} {p : Fin 128 → Prop} {k : Fin 4} (o : ℕ) (ho : o + 4 ≤ 128)
    (h : IsFirst (fun j : Fin 4 => v ⟨o + j.val, by omega⟩) q k)
    (hp : ∀ l, p l ↔ ∃ j : Fin 4, q j ∧ l.val = o + j.val) : IsFirst v p ⟨o + k.val, by omega⟩ := by
  refine ⟨(hp _).mpr ⟨k, h.1, rfl⟩, fun l hl => ?_, fun l hl hv => ?_⟩
  · obtain ⟨j, hj, hlj⟩ := (hp l).mp hl
    have e : l = ⟨o + j.val, by omega⟩ := Fin.ext hlj
    rw [e]
    exact h.2.1 j hj
  · obtain ⟨j, hj, hlj⟩ := (hp l).mp hl
    have e : l = ⟨o + j.val, by omega⟩ := Fin.ext hlj
    rw [e] at hv ⊢
    have := h.2.2 j hj hv
    rw [Fin.le_def] at this ⊢
    show o + k.val ≤ o + j.val
    omega

variable {G : Fin 4} {r : Fin 1024} {L A : FVec Ideal S1024x128 .f32}

theorem pay11_apply (hG : (Finset.univ.fold min ⊤ fun l : Fin 128 => A (ix2 r l)) = laneE G) (l : Fin 128) :
    k0_pay11 (k0_pay5 (F := Ideal)) A (ix2 r l) = BitVec.ofBool (decide (inGrp G l)) := by
  pointwise [k0_pay11]
  rw [ofBits_posInf, hG, ofBits_four, pay5_apply, andi_ofBool, ← Bool.decide_and]
  refine congrArg BitVec.ofBool (decide_eq_decide.mpr ?_)
  unfold laneE
  have e1 : (1 : EReal) = ((1 : ℝ) : EReal) := rfl
  rw [e1, ← EReal.coe_add, ← EReal.coe_mul, ← EReal.coe_mul, ← EReal.coe_sub, EReal.coe_le_coe_iff, EReal.coe_lt_coe_iff]
  constructor
  · rintro ⟨h1, h2⟩
    refine ⟨?_, ?_⟩
    · have : ((4 * G.val + 4 : ℕ) : ℝ) ≤ l.val := by push_cast; linarith
      exact_mod_cast this
    · have : (l.val : ℝ) < ((4 * G.val + 8 : ℕ) : ℝ) := by push_cast; linarith
      exact_mod_cast this
  · rintro ⟨h1, h2⟩
    have h1 : ((4 * G.val + 4 : ℕ) : ℝ) ≤ l.val := by exact_mod_cast h1
    have h2 : (l.val : ℝ) < ((4 * G.val + 8 : ℕ) : ℝ) := by exact_mod_cast h2
    push_cast at h1 h2
    constructor <;> linarith

theorem pay12_apply (hG : (Finset.univ.fold min ⊤ fun l : Fin 128 => A (ix2 r l)) = laneE G) (l : Fin 128) :
    k0_pay12 L (k0_pay5 (F := Ideal)) A (ix2 r l) = if inGrp G l then L (ix2 r l) else ⊥ := by
  pointwise [k0_pay12]
  rw [pay11_apply hG, select_ofBool, ofBits_negInf]
  simp only [decide_eq_true_eq]

theorem pay13_apply (hG : (Finset.univ.fold min ⊤ fun l : Fin 128 => A (ix2 r l)) = laneE G) :
    k0_pay13 L (k0_pay5 (F := Ideal)) A (ix2 r 0) = maxOf (inGrp G) fun l => L (ix2 r l) := by
  pointwise [k0_pay13]
  rw [ofBits_negInf]
  exact congrArg (fun f => Finset.univ.fold max ⊥ f) (funext fun l => pay12_apply hG l)

theorem pay14_apply (hG : (Finset.univ.fold min ⊤ fun l : Fin 128 => A (ix2 r l)) = laneE G) :
    k0_pay14 L (k0_pay5 (F := Ideal)) A (ix2 r 0) = firstOf fun l => inGrp G l ∧ (if inGrp G l then L (ix2 r l) else ⊥)
      = maxOf (inGrp G) fun l => L (ix2 r l) := by
  pointwise [k0_pay14]
  rw [ofBits_posInf]
  refine congrArg (fun f => Finset.univ.fold min ⊤ f) (funext fun l => ?_)
  show Scalar.select (IntOp.andi (k0_pay11 (k0_pay5 (F := Ideal)) A (ix2 r l)) (BitVec.ofBool (decide
    (k0_pay12 L (k0_pay5 (F := Ideal)) A (ix2 r l) = k0_pay13 L (k0_pay5 (F := Ideal)) A (ix2 r 0)))))
    (k0_pay5 (F := Ideal) (ix2 r l)) (Ideal.ofBits FTy.f32 1315859240#32) = _
  rw [pay11_apply hG, pay12_apply hG, pay13_apply hG, pay5_apply, ofBits_billion, andi_ofBool, select_ofBool]
  simp only [Bool.and_eq_true, decide_eq_true_eq]

/-- The lanes of group `G`'s experts without lane `a`. -/
abbrev inRest (G : Fin 4) (a : Fin 128) (l : Fin 128) : Prop := inGrp G l ∧ l ≠ a

theorem pay15_apply (hG : (Finset.univ.fold min ⊤ fun l : Fin 128 => A (ix2 r l)) = laneE G) {a : Fin 128}
    (ha : k0_pay14 L (k0_pay5 (F := Ideal)) A (ix2 r 0) = laneE a) (l : Fin 128) :
    k0_pay15 L (k0_pay5 (F := Ideal)) A (ix2 r l) = if inRest G a l then L (ix2 r l) else ⊥ := by
  pointwise [k0_pay15]
  rw [pay12_apply hG, ha, pay5_apply, ofBits_negInf]
  by_cases h : l = a
  · simp [h]
  · simp only [laneE_inj, h, if_false]
    exact if_congr ⟨fun k => ⟨k, h⟩, fun k => k.1⟩ rfl rfl

theorem pay16_apply (hG : (Finset.univ.fold min ⊤ fun l : Fin 128 => A (ix2 r l)) = laneE G) {a : Fin 128}
    (ha : k0_pay14 L (k0_pay5 (F := Ideal)) A (ix2 r 0) = laneE a) :
    k0_pay16 L (k0_pay5 (F := Ideal)) A (ix2 r 0) = maxOf (inRest G a) fun l => L (ix2 r l) := by
  pointwise [k0_pay16]
  rw [ofBits_negInf]
  exact congrArg (fun f => Finset.univ.fold max ⊥ f) (funext fun l => pay15_apply hG ha l)

theorem pay17_apply (hG : (Finset.univ.fold min ⊤ fun l : Fin 128 => A (ix2 r l)) = laneE G) {a : Fin 128}
    (ha : k0_pay14 L (k0_pay5 (F := Ideal)) A (ix2 r 0) = laneE a) (l : Fin 128) :
    k0_pay17 L (k0_pay5 (F := Ideal)) A (ix2 r l) = BitVec.ofBool (decide (inRest G a l
      ∧ (if inRest G a l then L (ix2 r l) else ⊥) = maxOf (inRest G a) fun l => L (ix2 r l))) := by
  pointwise [k0_pay17]
  rw [pay11_apply hG, pay15_apply hG ha, pay16_apply hG ha, ha, pay5_apply, andi_ofBool, andi_ofBool]
  refine congrArg BitVec.ofBool ?_
  rw [← Bool.decide_and, ← Bool.decide_and]
  refine decide_eq_decide.mpr (and_congr_left fun _ => and_congr_right fun _ => not_congr (laneE_inj l a))

theorem pay18_apply (v92 v109 v116 v122 : FVec Ideal S1024x1 .f32) (v128 : IVec S1024x128 1) (l : Fin 128) {a c : Fin 128}
    (ha : v116 (ix2 r 0) = laneE a)
    (hc : (Finset.univ.fold min ⊤ fun l : Fin 128 => if v128 (ix2 r l) = 1#1 then laneE l else ((1000000000 : ℝ) : EReal)) = laneE c) :
    k0_pay18 (k0_pay5 (F := Ideal)) v92 v109 v116 v122 v128 (ix2 r l)
      = v92 (ix2 r 0) * ((if l = a then Ideal.div 1 (1 + Ideal.exp (v122 (ix2 r 0) - v109 (ix2 r 0))) else 0)
        + (if l = c then Ideal.div (Ideal.exp (v122 (ix2 r 0) - v109 (ix2 r 0))) (1 + Ideal.exp (v122 (ix2 r 0) - v109 (ix2 r 0))) else 0)) := by
  have hf : (Finset.univ.fold min ⊤ fun x : Fin 128 => Scalar.select (v128 (ix2 r x)) (k0_pay5 (F := Ideal) (ix2 r x))
      (Ideal.ofBits FTy.f32 1315859240#32)) = laneE c := by
    rw [← hc]
    refine congrArg (fun f => Finset.univ.fold min ⊤ f) (funext fun l => ?_)
    rw [pay5_apply, ofBits_billion]
    rfl
  pointwise [k0_pay18]
  rw [ofBits_posInf, hf, ha, pay5_apply]
  simp only [laneE_inj]

/-- The lane that holds expert `e`'s score and gate. -/
abbrev expertLane (e : Fin 16) : Fin 128 := ⟨4 + e.val, by omega⟩

/-- Lane `4 + e` of a row's gates is the router's gate of expert `e`. -/
theorem gateOf_apply (r : Fin 1024) (e : Fin 16) :
    gateOf x g w b (ix2 r (expertLane e)) = tokenGate (fun j => scores x g w b r ⟨j.val, by omega⟩)
      (fun e => scores x g w b r (expertLane e)) e := by
  set s := scores x g w b r with hs
  set G := order4 (fun j : Fin 4 => s ⟨j.val, by omega⟩) 0 with hGdef
  have first0 : IsFirst s isGroup ⟨0 + G.val, by omega⟩ := by
    refine IsFirst.lanes 0 (by decide) (q := fun _ => True) ?_ fun l => ?_
    · simpa using (order4_first fun j : Fin 4 => s ⟨j.val, by omega⟩).1
    · exact ⟨fun h => ⟨⟨l.val, h⟩, trivial, by simp⟩, fun ⟨j, _, hj⟩ => by show l.val < 4; omega⟩
  have hmax0 : maxOf isGroup s = s ⟨G.val, by omega⟩ := by
    rw [maxOf_eq _ _ _ first0]; simp
  have hG : (Finset.univ.fold min ⊤ fun l : Fin 128 => k0_pay9 x g w b (ix2 r l)) = laneE G := by
    have h := first_at_max (by decide) isGroup s _ first0
    have e0 : laneE (⟨0 + G.val, by omega⟩ : Fin 128) = laneE G := by simp [laneE]
    rw [← e0, ← h]
    exact congrArg (fun f => Finset.univ.fold min ⊤ f) (funext fun l => pay9_apply x g w b r l)
  set el : Fin 4 → EReal := fun j => s (expertLane ⟨4 * G.val + j.val, by omega⟩) with hel
  have hel' : el = fun j : Fin 4 => s ⟨(4 + 4 * G.val) + j.val, by omega⟩ := by
    funext j
    refine congrArg s (Fin.ext ?_)
    show 4 + (4 * G.val + j.val) = 4 + 4 * G.val + j.val
    omega
  obtain ⟨f1, f2⟩ := order4_first el
  set a := order4 el 0
  set b' := order4 el 1
  have first1 : IsFirst s (inGrp G) ⟨(4 + 4 * G.val) + a.val, by omega⟩ := by
    refine IsFirst.lanes _ (by omega) (q := fun _ => True) (by rw [← hel']; exact f1) fun l => ?_
    exact ⟨fun h => ⟨⟨l.val - (4 + 4 * G.val), by omega⟩, trivial, by show _ = _ + (_ - _); omega⟩,
      fun ⟨j, _, hj⟩ => ⟨by omega, by omega⟩⟩
  have first2 : IsFirst s (inRest G ⟨(4 + 4 * G.val) + a.val, by omega⟩) ⟨(4 + 4 * G.val) + b'.val, by omega⟩ := by
    refine IsFirst.lanes _ (by omega) (q := fun j => j ≠ a) (by rw [← hel']; exact f2) fun l => ?_
    constructor
    · rintro ⟨h, hn⟩
      refine ⟨⟨l.val - (4 + 4 * G.val), by omega⟩, fun hc => hn (Fin.ext ?_), by show _ = _ + (_ - _); omega⟩
      have := congrArg Fin.val hc
      show l.val = 4 + 4 * G.val + a.val
      simp only at this
      omega
    · rintro ⟨j, hj, hl⟩
      refine ⟨⟨by omega, by omega⟩, fun hc => hj (Fin.ext ?_)⟩
      have := congrArg Fin.val hc
      simp only at this
      omega
  have ha := pay14_apply (L := k0_pay4 x g w b) hG
  rw [first_at_max (by decide) (inGrp G) s _ first1] at ha
  have hb : (Finset.univ.fold min ⊤ fun l : Fin 128 => if k0_pay17 (k0_pay4 x g w b) (k0_pay5 (F := Ideal)) (k0_pay9 x g w b)
      (ix2 r l) = 1#1 then laneE l else ((1000000000 : ℝ) : EReal)) = laneE (⟨(4 + 4 * G.val) + b'.val, by omega⟩ : Fin 128) := by
    rw [← first_at_max (by decide) _ s _ first2]
    refine congrArg (fun f => Finset.univ.fold min ⊤ f) (funext fun l => ?_)
    rw [pay17_apply hG ha l]
    refine if_congr ?_ rfl rfl
    exact (by decide : ∀ v : Bool, BitVec.ofBool v = 1#1 ↔ v = true) _ |>.trans decide_eq_true_iff
  unfold gateOf
  rw [pay18_apply _ _ _ _ _ _ ha hb, pay10_apply, pay13_apply hG, pay16_apply hG ha]
  change _ * ((if _ then Ideal.div 1 (1 + Ideal.exp (maxOf _ s - maxOf _ s)) else 0) + _) = _
  rw [maxOf_eq _ _ _ first1, maxOf_eq _ _ _ first2, hmax0, sum_groups]
  rw [show s ⟨4 + 4 * G.val + a.val, by omega⟩ = el a from (congrFun hel' a).symm,
    show s ⟨4 + 4 * G.val + b'.val, by omega⟩ = el b' from (congrFun hel' b').symm]
  have i : ∀ k : Fin 4, (expertLane e = (⟨4 + 4 * G.val + k.val, by omega⟩ : Fin 128)) ↔ e.val = 4 * G.val + k.val := fun k => by
    rw [Fin.ext_iff]
    show 4 + e.val = 4 + 4 * G.val + k.val ↔ _
    omega
  rw [if_congr (i a) rfl rfl, if_congr (i b') rfl rfl]
  rfl

end Cert.Proof
-- ==== Proof.Blocks.lean ====
/- The blocks that a grid point of the launch works on, as entries of the arguments: point `t` has the tokens of row block
   `t / 16` and the weights of expert `t % 16`. -/
module

public import proofs.«01_k».proof.Proof.Gen.KernelIdeal.Value
public import Idealize.ShloMosaic.Lib.Pipeline.ValueKit

@[expose] public section

set_option maxRecDepth 16384

noncomputable section

namespace Cert.Proof

open Idealize.ShloMosaic Idealize.ShloMosaic.TcCoe Idealize.SL.Sem
open Cert.KernelIdeal Cert.KernelIdeal.Gen

variable (m : (ℓ : Loc nD τ sig) → Buf (Elt Ideal) ℓ)

theorem idx_g : ∀ t : Fin grid0.N, win0_1.index t = ![0, 0] := by decide +kernel
theorem idx_w : ∀ t : Fin grid0.N, win0_2.index t = ![0, 0] := by decide +kernel
theorem idx_b : ∀ t : Fin grid0.N, win0_3.index t = ![0, 0] := by decide +kernel
theorem idx_x : ∀ t : Fin grid0.N, win0_0.index t = ![t.val / 16, 0] := by decide +kernel
theorem idx_wg : ∀ t : Fin grid0.N, win0_4.index t = ![0, t.val % 16, 0, 0] := by decide +kernel
theorem idx_wu : ∀ t : Fin grid0.N, win0_5.index t = ![0, t.val % 16, 0, 0] := by decide +kernel
theorem idx_wd : ∀ t : Fin grid0.N, win0_6.index t = ![0, t.val % 16, 0, 0] := by decide +kernel
theorem idx_out : ∀ t : Fin grid0.N, win0_7.index t = ![t.val / 16, 0] := by decide +kernel

theorem b0 (c : Dev nD) (t : Fin cfg0.N) (r d : Fin 1024) (h : 1024 * (t.val / 16) + r.val < 16384) :
    (iblk m c 0 t : Vec Ideal S1024x1024 .f32) (ix2 r d)
      = (m (c, Proc.tc.devRef main_arg0) : FVec Ideal S16384x1024 .f32) (ix2 ⟨1024 * (t.val / 16) + r.val, h⟩ d) := by
  blk_point [iblk, V, idx_x t]
theorem b1 (c : Dev nD) (t : Fin cfg0.N) (d : Fin 1024) :
    (iblk m c 1 t : Vec Ideal S1x1024 .f32) (ix2 0 d) = (m (c, Proc.tc.devRef main_arg1) : FVec Ideal S1024 .f32) (ix1 d) := by
  blk_point [iblk, V, idx_g t]
theorem b4 (c : Dev nD) (t : Fin cfg0.N) (d : Fin 1024) (f : Fin 256) :
    (iblk m c 4 t : Vec Ideal S1x1x1024x256 .bf16) (ix4 0 0 d f)
     = (m (c, Proc.tc.devRef main_arg7) : FVec Ideal S4x16x1024x256 .f32) (ix4 0 ⟨t.val % 16, Nat.mod_lt _ (by decide)⟩ d f) := by
  blk_point [iblk, V, idx_wg t]
theorem b5 (c : Dev nD) (t : Fin cfg0.N) (d : Fin 1024) (f : Fin 256) :
    (iblk m c 5 t : Vec Ideal S1x1x1024x256 .bf16) (ix4 0 0 d f)
     = (m (c, Proc.tc.devRef main_arg6) : FVec Ideal S4x16x1024x256 .f32) (ix4 0 ⟨t.val % 16, Nat.mod_lt _ (by decide)⟩ d f) := by
  blk_point [iblk, V, idx_wu t]
theorem b6 (c : Dev nD) (t : Fin cfg0.N) (d : Fin 1024) (f : Fin 256) :
    (iblk m c 6 t : Vec Ideal S1x1x256x1024 .bf16) (ix4 0 0 f d)
     = (m (c, Proc.tc.devRef main_arg8) : FVec Ideal S4x16x256x1024 .f32) (ix4 0 ⟨t.val % 16, Nat.mod_lt _ (by decide)⟩ f d) := by
  blk_point [iblk, V, idx_wd t]

theorem whole2 (c : Dev nD) (t : Fin cfg0.N) (y : S1024x128.Idx) :
    (iblk m c 2 t : Vec Ideal S1024x128 .bf16) y = (V m c main_v5 : FVec Ideal S1024x128 .bf16) y := by
  blk_simp [iblk]
  blk_ext [idx_w t]
theorem whole3 (c : Dev nD) (t : Fin cfg0.N) (y : S1x128.Idx) :
    (iblk m c 3 t : Vec Ideal S1x128 .f32) y = (V m c main_v8 : FVec Ideal S1x128 .f32) y := by
  blk_simp [iblk]
  blk_ext [idx_b t]
/-- The router's weights as the wrapper lays them out on lanes. -/
def wCat (w2 : FVec Ideal S1024x4 .f32) (w4 : FVec Ideal S1024x16 .f32) : FVec Ideal S1024x128 .f32 :=
  concatenate S1024x128 1 [⟨S1024x4, w2⟩, ⟨S1024x16, w4⟩, ⟨S1024x108, broadcastInDim S1024x108 ![] bcast_S_S1024x108 (constant S_ .f32 0x00000000#32)⟩] concatenates_S1024x4_S1024x16_S1024x108_S1024x128_d1

/-- The router's biases as the wrapper lays them out on lanes. -/
def bCat (b3 : FVec Ideal S4 .f32) (b5 : FVec Ideal S16 .f32) : FVec Ideal S128 .f32 :=
  concatenate S128 0 [⟨S4, b3⟩, ⟨S16, b5⟩, ⟨S108, broadcastInDim S108 ![] bcast_S_S108 (constant S_ .f32 0x00000000#32)⟩] concatenates_S4_S16_S108_S128_d0

theorem v5_eq (c : Dev nD) : (V m c main_v5 : FVec Ideal S1024x128 .bf16)
    = truncf .bf16 (wCat (m (c, Proc.tc.devRef main_arg2)) (m (c, Proc.tc.devRef main_arg4))) bitsLt_bf16_f32 := rfl
theorem v8_eq (c : Dev nD) : (V m c main_v8 : FVec Ideal S1x128 .f32)
    = shapeCast S1x128 (bCat (m (c, Proc.tc.devRef main_arg3)) (m (c, Proc.tc.devRef main_arg5))) shapeCasts_S128_S1x128 := rfl

theorem wCat_group (w2 : FVec Ideal S1024x4 .f32) (w4 : FVec Ideal S1024x16 .f32) (d : Fin 1024) (j : Fin 4) :
    wCat w2 w4 (ix2 d ⟨j.val, by omega⟩) = w2 (ix2 d j) := by
  pointwise [wCat]
theorem wCat_expert (w2 : FVec Ideal S1024x4 .f32) (w4 : FVec Ideal S1024x16 .f32) (d : Fin 1024) (j : Fin 16) :
    wCat w2 w4 (ix2 d ⟨4 + j.val, by omega⟩) = w4 (ix2 d j) := by
  pointwise [wCat]
theorem bCat_group (b3 : FVec Ideal S4 .f32) (b5 : FVec Ideal S16 .f32) (j : Fin 4) :
    bCat b3 b5 (ix1 ⟨j.val, by omega⟩) = b3 (ix1 j) := by
  pointwise [bCat]
theorem bCat_expert (b3 : FVec Ideal S4 .f32) (b5 : FVec Ideal S16 .f32) (j : Fin 16) :
    bCat b3 b5 (ix1 ⟨4 + j.val, by omega⟩) = b5 (ix1 j) := by
  pointwise [bCat]

theorem b2 (c : Dev nD) (t : Fin cfg0.N) (d : Fin 1024) (l : Fin 128) :
    (iblk m c 2 t : Vec Ideal S1024x128 .bf16) (ix2 d l)
      = wCat (m (c, Proc.tc.devRef main_arg2)) (m (c, Proc.tc.devRef main_arg4)) (ix2 d l) := by
  rw [whole2, v5_eq]
  rfl
theorem b3 (c : Dev nD) (t : Fin cfg0.N) (l : Fin 128) :
    (iblk m c 3 t : Vec Ideal S1x128 .f32) (ix2 0 l)
      = bCat (m (c, Proc.tc.devRef main_arg3)) (m (c, Proc.tc.devRef main_arg5)) (ix1 l) := by
  rw [whole3, v8_eq]
  pointwise
end Cert.Proof
-- ==== Proof.Step.lean ====
module

public import proofs.«01_k».proof.Proof.Gen.KernelIdeal.Value
public import Idealize.ShloMosaic.Lib.Pipeline.ValueKit
public import Idealize.ShloMosaic.Lib.Pipeline.ReadBack

@[expose] public section

set_option maxRecDepth 16384

noncomputable section

namespace Cert.Proof

open Idealize.ShloMosaic Idealize.ShloMosaic.TcCoe Idealize.SL.Sem
open Cert.KernelIdeal Cert.KernelIdeal.Gen Cert.KernelIdeal.Value

variable (m : (ℓ : Loc nD τ sig) → Buf (Elt Ideal) ℓ)

theorem stepB (c : Dev nD) (t : Fin cfg0.N) (acc) (h0 : ¬t.val % 16 = 0) (h1 : ¬t.val % 16 = 15) :
    (stAt0 m c t.val t.isLt acc).2 = (acc.2.1, acc.2.2.1,
     k0_pay1 acc.2.2.2 (k0_pay20 (grid0.coords t) acc.2.1 acc.2.2.1 (iblk m c 4 t) (iblk m c 5 t)) (iblk m c 6 t)) := by
  rw [stAt0_B m c t acc h0 h1]
  refine Prod.ext rfl (Prod.ext rfl ?_)
  dsimp only
  frame_out
  simp only [read_unread_whole]

theorem stepC (c : Dev nD) (t : Fin cfg0.N) (acc) (h0 : ¬t.val % 16 = 0) (h1 : t.val % 16 = 15) :
    (stAt0 m c t.val t.isLt acc).1 =
     k0_pay1 acc.2.2.2 (k0_pay20 (grid0.coords t) acc.2.1 acc.2.2.1 (iblk m c 4 t) (iblk m c 5 t)) (iblk m c 6 t) := by
  rw [stAt0_C m c t acc h0 h1]
  dsimp only
  frame_out
  simp only [read_unread_whole]

theorem stepA0 (c : Dev nD) (t : Fin cfg0.N) (acc) (h0 : t.val % 16 = 0) (h1 : ¬ t.val % 16 = 15) :
    (stAt0 m c t.val t.isLt acc).2.1 = k0_pay3 (iblk m c 0 t) (iblk m c 1 t) := by
  rw [stAt0_A m c t acc h0 h1]
  dsimp only
  frame_out

def gateBlk (c : Dev nD) (t : Fin cfg0.N) : FVec Ideal S1024x128 .f32 :=
  k0_pay18 (k0_pay5 (F := Ideal))
    (k0_pay10 (k0_pay6 (F := Ideal)) (k0_pay7 (iblk m c 0 t) (iblk m c 1 t) (iblk m c 2 t) (iblk m c 3 t)) (k0_pay8 (iblk m c 0 t) (iblk m c 1 t) (iblk m c 2 t) (iblk m c 3 t)))
    (k0_pay13 (k0_pay4 (iblk m c 0 t) (iblk m c 1 t) (iblk m c 2 t) (iblk m c 3 t)) (k0_pay5 (F := Ideal)) (k0_pay9 (iblk m c 0 t) (iblk m c 1 t) (iblk m c 2 t) (iblk m c 3 t)))
    (k0_pay14 (k0_pay4 (iblk m c 0 t) (iblk m c 1 t) (iblk m c 2 t) (iblk m c 3 t)) (k0_pay5 (F := Ideal)) (k0_pay9 (iblk m c 0 t) (iblk m c 1 t) (iblk m c 2 t) (iblk m c 3 t)))
    (k0_pay16 (k0_pay4 (iblk m c 0 t) (iblk m c 1 t) (iblk m c 2 t) (iblk m c 3 t)) (k0_pay5 (F := Ideal)) (k0_pay9 (iblk m c 0 t) (iblk m c 1 t) (iblk m c 2 t) (iblk m c 3 t)))
    (k0_pay17 (k0_pay4 (iblk m c 0 t) (iblk m c 1 t) (iblk m c 2 t) (iblk m c 3 t)) (k0_pay5 (F := Ideal)) (k0_pay9 (iblk m c 0 t) (iblk m c 1 t) (iblk m c 2 t) (iblk m c 3 t)))

theorem stepA1 (c : Dev nD) (t : Fin cfg0.N) (acc) (h0 : t.val % 16 = 0) (h1 : ¬ t.val % 16 = 15) :
    (stAt0 m c t.val t.isLt acc).2.2.1 = gateBlk m c t := by
  rw [stAt0_A m c t acc h0 h1]
  dsimp only
  frame_out
  rfl

theorem stepA2 (c : Dev nD) (t : Fin cfg0.N) (acc) (h0 : t.val % 16 = 0) (h1 : ¬ t.val % 16 = 15) :
    (stAt0 m c t.val t.isLt acc).2.2.2 = k0_pay1 (k0_pay19 (iblk m c 0 t)) (k0_pay20 (grid0.coords t) (k0_pay3 (iblk m c 0 t) (iblk m c 1 t)) (gateBlk m c t) (iblk m c 4 t) (iblk m c 5 t)) (iblk m c 6 t) := by
  rw [stAt0_A m c t acc h0 h1]
  dsimp only
  frame_out
  rfl
end Cert.Proof
-- ==== Proof.Fold.lean ====
/- What the launch leaves in the result array: along a row block's sixteen points the scratch buffers hold the normed
   tokens, the gates and the sum of the experts passed, and the last point writes the sum out. -/
module

public import proofs.«01_k».proof.Proof.Spec
public import proofs.«01_k».proof.Proof.Gate
public import proofs.«01_k».proof.Proof.Blocks
public import proofs.«01_k».proof.Proof.Step

@[expose] public section

set_option maxRecDepth 16384

noncomputable section

namespace Cert.Proof

open Idealize.ShloMosaic Idealize.ShloMosaic.TcCoe Idealize.SL.Sem
open Cert.KernelIdeal Cert.KernelIdeal.Gen Cert.KernelIdeal.Value

variable (m : (ℓ : Loc nD τ sig) → Buf (Elt Ideal) ℓ) (c : Dev nD)

/-- The kernel's arguments in memory `m`, by name. -/
def argsOf : Args where
  x := m (c, Proc.tc.devRef main_arg0)
  gain := m (c, Proc.tc.devRef main_arg1)
  wGroup := m (c, Proc.tc.devRef main_arg2)
  bGroup := m (c, Proc.tc.devRef main_arg3)
  wRouter := m (c, Proc.tc.devRef main_arg4)
  bRouter := m (c, Proc.tc.devRef main_arg5)
  wUp := m (c, Proc.tc.devRef main_arg6)
  wGate := m (c, Proc.tc.devRef main_arg7)
  wDown := m (c, Proc.tc.devRef main_arg8)

/-- The token of row `r` in the block of point `t`. -/
def tok (t : Fin cfg0.N) (r : Fin 1024) : Fin 16384 :=
  ⟨1024 * (t.val / 16) + r.val, by have := lt_of_lt_of_eq t.isLt (show cfg0.N = 256 from N_0); omega⟩

/-- The expert of point `t`. -/
def exp (t : Fin cfg0.N) : Fin 16 := ⟨t.val % 16, Nat.mod_lt _ (by decide)⟩

theorem pay2_apply (t : Fin cfg0.N) (r d : Fin 1024) :
    k0_pay2 (iblk m c 0 t) (iblk m c 1 t) (ix2 r d) = (argsOf m c).normed (tok t r) d := by
  pointwise [k0_pay2]
  rw [b1]
  simp only [b0 m c t r _ (tok t r).isLt]
  rfl

theorem pay3_apply (t : Fin cfg0.N) (r d : Fin 1024) :
    k0_pay3 (iblk m c 0 t) (iblk m c 1 t) (ix2 r d) = (argsOf m c).normed (tok t r) d := by
  rw [← pay2_apply]
  pointwise [k0_pay3]

theorem scores_group (t : Fin cfg0.N) (r : Fin 1024) (j : Fin 4) :
    scores (iblk m c 0 t) (iblk m c 1 t) (iblk m c 2 t) (iblk m c 3 t) r ⟨j.val, by omega⟩
      = (argsOf m c).groupScore (tok t r) j := by
  unfold scores
  pointwise [k0_pay4]
  simp only [pay2_apply, b2, b3, bCat_group, wCat_group]
  rfl

theorem scores_expert (t : Fin cfg0.N) (r : Fin 1024) (e : Fin 16) :
    scores (iblk m c 0 t) (iblk m c 1 t) (iblk m c 2 t) (iblk m c 3 t) r (expertLane e)
      = (argsOf m c).expertScore (tok t r) e := by
  unfold scores
  pointwise [k0_pay4]
  simp only [pay2_apply, b2, b3, bCat_expert, wCat_expert]
  rfl

theorem gateBlk_apply (t : Fin cfg0.N) (r : Fin 1024) (e : Fin 16) :
    gateBlk m c t (ix2 r (expertLane e)) = (argsOf m c).gate (tok t r) e := by
  have h := gateOf_apply (iblk m c 0 t) (iblk m c 1 t) (iblk m c 2 t) (iblk m c 3 t) r e
  simp only [scores_group, scores_expert] at h
  exact h

/-- The grid point's second coordinate is its expert. -/
theorem coord_expert : ∀ t : Fin grid0.N, (grid0.coords t 1).val = t.val % 16 := by decide +kernel

/-- A sum over the lanes in which one lane is picked. -/
theorem sum_pick (e : Fin 16) (f : Fin 128 → EReal) :
    (∑ l : Fin 128, Scalar.select (IntOp.cmpi .eq (BitVec.ofNat 32 l.val) (Scalar.addi (BitVec.ofNat 32 e.val) 4#32)) (f l) 0)
      = f (expertLane e) := by
  rw [Finset.sum_eq_single (expertLane e)]
  · have : IntOp.cmpi .eq (BitVec.ofNat 32 (expertLane e).val) (Scalar.addi (BitVec.ofNat 32 e.val) 4#32) = 1#1 := by
      revert e; decide
    rw [this]; rfl
  · intro l _ hl
    have : IntOp.cmpi .eq (BitVec.ofNat 32 l.val) (Scalar.addi (BitVec.ofNat 32 e.val) 4#32) = 0#1 := by
      have key : ∀ (l : Fin 128) (e : Fin 16), l ≠ expertLane e →
        IntOp.cmpi .eq (BitVec.ofNat 32 l.val) (Scalar.addi (BitVec.ofNat 32 e.val) 4#32) = 0#1 := by decide +kernel
      exact key l e hl
    rw [this]; rfl
  · intro h; exact absurd (Finset.mem_univ _) h

/-- One point's step at one entry: what the point's expert adds. -/
theorem step_apply (t : Fin cfg0.N) (acc : Vec Ideal S1024x1024 .f32) (xn : Vec Ideal S1024x1024 .bf16)
    (g : Vec Ideal S1024x128 .f32) (r d : Fin 1024)
    (hx : ∀ k, xn (ix2 r k) = (argsOf m c).normed (tok t r) k)
    (hg : ∀ e, g (ix2 r (expertLane e)) = (argsOf m c).gate (tok t r) e) :
    k0_pay1 acc (k0_pay20 (grid0.coords t) xn g (iblk m c 4 t) (iblk m c 5 t)) (iblk m c 6 t) (ix2 r d)
      = acc (ix2 r d) + (argsOf m c).expertTerm (tok t r) (exp t) d := by
  pointwise [k0_pay1]
  have h20 : ∀ f : Fin 256, k0_pay20 (grid0.coords t) xn g (iblk m c 4 t) (iblk m c 5 t) (ix2 r f)
      = (argsOf m c).hidden (tok t r) (exp t) f * (argsOf m c).gate (tok t r) (exp t) := fun f => by
    pointwise [k0_pay20]
    have hs := sum_pick (exp t) fun l => g (ix2 r l)
    rw [show (exp t).val = (grid0.coords t 1).val from (coord_expert t).symm] at hs
    rw [hs, hg]
    simp only [hx, b4, b5]
    rfl
  simp only [h20, b6]
  rfl

/-- What the scratch buffers hold after point `t`. -/
structure Holds (t : Fin cfg0.N)
    (s : Vec Ideal S1024x1024 .f32 × Vec Ideal S1024x1024 .bf16 × Vec Ideal S1024x128 .f32 × Vec Ideal S1024x1024 .f32) : Prop where
  /-- The normed tokens. -/
  xn : ∀ r d, s.2.1 (ix2 r d) = (argsOf m c).normed (tok t r) d
  /-- The gates. -/
  gate : ∀ r e, s.2.2.1 (ix2 r (expertLane e)) = (argsOf m c).gate (tok t r) e
  /-- The tokens and what the experts up to the point's own have added. -/
  acc : ∀ r d, s.2.2.2 (ix2 r d) = (argsOf m c).x (ix2 (tok t r) d)
    + ∑ e ∈ Finset.univ.filter (fun e : Fin 16 => e.val ≤ t.val % 16), (argsOf m c).expertTerm (tok t r) e d

theorem sum_upto_zero (f : Fin 16 → EReal) {k : ℕ} (hk : k = 0) (h : k < 16) :
    (∑ e ∈ Finset.univ.filter (fun e : Fin 16 => e.val ≤ k), f e) = f ⟨k, h⟩ := by
  subst hk
  rw [show Finset.univ.filter (fun e : Fin 16 => e.val ≤ 0) = {(0 : Fin 16)} by decide, Finset.sum_singleton]
  rfl

theorem sum_upto_succ (f : Fin 16 → EReal) {k : ℕ} (h : k + 1 < 16) :
    (∑ e ∈ Finset.univ.filter (fun e : Fin 16 => e.val ≤ k + 1), f e)
      = (∑ e ∈ Finset.univ.filter (fun e : Fin 16 => e.val ≤ k), f e) + f ⟨k + 1, h⟩ := by
  rw [show Finset.univ.filter (fun e : Fin 16 => e.val ≤ k + 1)
    = insert ⟨k + 1, h⟩ (Finset.univ.filter fun e : Fin 16 => e.val ≤ k) by
      ext e; simp [Fin.ext_iff]; omega, Finset.sum_insert (by simp), add_comm]

theorem holds_start (t : Fin cfg0.N) (h0 : t.val % 16 = 0) (a) : Holds m c t (stAt0 m c t.val t.isLt a) where
  xn r d := by
    rw [stepA0 m c t a h0 (by omega)]; exact pay3_apply m c t r d
  gate r e := by
    rw [stepA1 m c t a h0 (by omega)]; exact gateBlk_apply m c t r e
  acc r d := by
    rw [stepA2 m c t a h0 (by omega), step_apply m c t _ _ _ r d (pay3_apply m c t r) (gateBlk_apply m c t r),
      sum_upto_zero _ h0 (Nat.mod_lt _ (by decide))]
    refine congrArg₂ (· + ·) ?_ rfl
    pointwise [k0_pay19]
    exact b0 m c t r d (tok t r).isLt

theorem tok_next (t t' : Fin cfg0.N) (h : t'.val = t.val + 1) (h0 : ¬ t'.val % 16 = 0) : tok t' = tok t := by
  funext r
  refine Fin.ext ?_
  show 1024 * (t'.val / 16) + r.val = 1024 * (t.val / 16) + r.val
  omega

theorem acc_next (t t' : Fin cfg0.N) (h : t'.val = t.val + 1) (h0 : ¬ t'.val % 16 = 0) (s) (hs : Holds m c t s) (r d : Fin 1024) :
    k0_pay1 s.2.2.2 (k0_pay20 (grid0.coords t') s.2.1 s.2.2.1 (iblk m c 4 t') (iblk m c 5 t')) (iblk m c 6 t') (ix2 r d)
      = (argsOf m c).x (ix2 (tok t' r) d)
    + ∑ e ∈ Finset.univ.filter (fun e : Fin 16 => e.val ≤ t'.val % 16), (argsOf m c).expertTerm (tok t' r) e d := by
  have ht := tok_next t t' h h0
  rw [step_apply m c t' _ _ _ r d (by rw [ht]; exact hs.xn r) (by rw [ht]; exact hs.gate r), hs.acc, ht]
  have hm : t'.val % 16 = t.val % 16 + 1 := by omega
  have hlt : t.val % 16 + 1 < 16 := by omega
  have he : exp t' = ⟨t.val % 16 + 1, hlt⟩ := Fin.ext hm
  rw [hm, sum_upto_succ _ hlt, he, add_assoc]

theorem holds_next (t t' : Fin cfg0.N) (h : t'.val = t.val + 1) (h0 : ¬ t'.val % 16 = 0) (h1 : ¬ t'.val % 16 = 15) (s)
    (hs : Holds m c t s) : Holds m c t' (stAt0 m c t'.val t'.isLt s) where
  xn r d := by
    rw [stepB m c t' s h0 h1, tok_next t t' h h0]; exact hs.xn r d
  gate r e := by
    rw [stepB m c t' s h0 h1, tok_next t t' h h0]; exact hs.gate r e
  acc r d := by
    rw [stepB m c t' s h0 h1]; exact acc_next m c t t' h h0 s hs r d

/-- The carried state at every point but a row block's last. -/
theorem holds_all : ∀ (n : ℕ) (h : 0 + n < cfg0.N), ¬ n % 16 = 15 →
    Holds m c ⟨n, by omega⟩ (Pipeline.accAt (fun n h => stAt0 m c n h junk0) (stAt0 m c) 0 n h)
  | 0, h, _ => holds_start m c ⟨0, by omega⟩ rfl _
  | n + 1, h, hn => by
    by_cases h0 : (n + 1) % 16 = 0
    · have := holds_start m c ⟨n + 1, by omega⟩ h0 (Pipeline.accAt (fun n h => stAt0 m c n h junk0) (stAt0 m c) 0 n (by omega))
      simpa only [Pipeline.accAt_succ, Nat.zero_add] using this
    · have := holds_next m c ⟨n, by omega⟩ ⟨n + 1, by omega⟩ rfl h0 hn _ (holds_all n (by omega) (by omega))
      simpa only [Pipeline.accAt_succ, Nat.zero_add] using this

/-- What the launch's result array holds. -/
theorem G7_apply (i : S16384x1024.Idx) : G7 m c i = (argsOf m c).result (i 0) (i 1) := by
  have hN : cfg0.N = 256 := N_0
  have hi0 : (i 0).val < 16384 := (i 0).isLt
  have hi1 : (i 1).val < 1024 := (i 1).isLt
  have hp : pt7Of i = 16 * ((i 0).val / 1024) + 14 + 1 := by
    show 16 * (1 * ((i 0).val / 1024 - 0) + 1 * ((i 1).val / 1024 - 0)) + 15 = _
    omega
  unfold G7
  rw [dif_pos (by rw [hp, hN]; omega)]
  have hlt : 0 + (16 * ((i 0).val / 1024) + 14 + 1) < cfg0.N := by rw [hN]; omega
  rw [fold0_congr m c _ _ _ hlt hp, Pipeline.accAt_succ]
  have hs := holds_all m c (16 * ((i 0).val / 1024) + 14) (by omega) (by omega)
  set t' : Fin cfg0.N := ⟨16 * ((i 0).val / 1024) + 14 + 1, by omega⟩ with ht'
  have hv : t'.val = 16 * ((i 0).val / 1024) + 14 + 1 := rfl
  have hC := stepC m c t' (Pipeline.accAt (fun n h => stAt0 m c n h junk0) (stAt0 m c) 0 (16 * ((i 0).val / 1024) + 14) (by omega))
    (by omega) (by omega)
  have key := acc_next m c _ t' rfl (by omega) _ hs ⟨(i 0).val % 1024, Nat.mod_lt _ (by decide)⟩ ⟨(i 1).val % 1024, Nat.mod_lt _ (by decide)⟩
  rw [← hC] at key
  have htok : tok t' ⟨(i 0).val % 1024, Nat.mod_lt _ (by decide)⟩ = i 0 := by
    refine Fin.ext ?_
    show 1024 * ((16 * ((i 0).val / 1024) + 14 + 1) / 16) + (i 0).val % 1024 = (i 0).val
    omega
  have hd : (⟨(i 1).val % 1024, Nat.mod_lt _ (by decide)⟩ : Fin 1024) = i 1 := Fin.ext (Nat.mod_eq_of_lt hi1)
  have hm : t'.val % 16 = 15 := by omega
  rw [htok, hd, hm, show (Finset.univ.filter fun e : Fin 16 => e.val ≤ 15) = Finset.univ by decide] at key
  have hl : loc7Of i = ix2 (⟨(i 0).val % 1024, Nat.mod_lt _ (by decide)⟩ : Fin 1024) (i 1) := by
    funext a
    match a with
    | ⟨0, _⟩ => rfl
    | ⟨1, _⟩ => exact hd
  rw [hl]
  simp only [Nat.zero_add]
  exact key

end Cert.Proof
-- ==== Proof.RefScores.lean ====
/- The reference's normed tokens and its two routers' scores, entry by entry. -/
module

public import proofs.«01_k».proof.Proof.Spec
public import proofs.«01_k».proof.Proof.Gen.ReferenceIdeal.Read
public import Idealize.ShloMosaic.Lib.Pipeline.ValueKit

@[expose] public section

set_option maxRecDepth 16384

noncomputable section

namespace Cert.Proof

open Idealize.ShloMosaic Cert.ReferenceIdeal Cert.ReferenceIdeal.Read

variable (a : Args)

theorem v0_apply (b : Fin 8) (s : Fin 2048) (d : Fin 1024) :
    val_main_v0 (F := Ideal) a.x (ix3 b s d) = a.x (ix2 ⟨2048 * b.val + s.val, by omega⟩ d) := by
  pointwise [val_main_v0]
  exact congrArg a.x (congrArg₂ ix2 (Fin.ext (by show b.val * 2048 + s.val = 2048 * b.val + s.val; omega)) rfl)

theorem v13_apply (b : Fin 8) (s : Fin 2048) (d : Fin 1024) :
    val_main_v13 (F := Ideal) a.x a.gain (ix3 b s d) = a.normed ⟨2048 * b.val + s.val, by omega⟩ d := by
  pointwise [val_main_v13, val_main_v10, val_main_v9, val_main_v8, val_main_v7, val_main_v6, val_main_v5, val_main_v4,
    val_main_v3, val_main_v2, val_main_v1, val_main_v11, val_main_v12, val_main_cst, val_main_cst_0, val_main_cst_1]
  simp only [v0_apply]
  rfl

theorem v20_apply (t : Fin 16384) (d : Fin 1024) : val_main_v20 (F := Ideal) a.x a.gain (ix2 t d) = a.normed t d := by
  pointwise [val_main_v20]
  rw [v13_apply]
  exact congrArg (a.normed · d) (Fin.ext (Nat.div_add_mod t.val 2048))

theorem v25_apply (t : Fin 16384) (j : Fin 4) :
    val_main_v25 (F := Ideal) a.x a.gain a.wGroup a.bGroup (ix2 t j) = a.groupScore t j := by
  pointwise [val_main_v25, val_main_v22, val_main_v24, val_main_v23]
  simp only [v20_apply]
  rfl

theorem v57_apply (t : Fin 16384) (g j : Fin 4) :
    val_main_v57 (F := Ideal) a.x a.gain a.wRouter a.bRouter (ix3 t g j) = a.expertScore t ⟨4 * g.val + j.val, by omega⟩ := by
  pointwise [val_main_v57, val_main_v56, val_main_v53, val_main_v54, val_main_v55]
  simp only [v20_apply]
  have h : (⟨g.val * 4 + j.val, by omega⟩ : Fin 16) = ⟨4 * g.val + j.val, by omega⟩ := Fin.ext (by show g.val * 4 + j.val = 4 * g.val + j.val; omega)
  rw [h]
  rfl

theorem v95_apply (t : Fin 16384) (e : Fin 16) (f : Fin 256) :
    val_main_v95 (F := Ideal) a.x a.gain a.wGate (ix3 t e f) = ∑ d, a.normed t d * a.wGate (ix4 0 e d f) := by
  pointwise [val_main_v95, val_main_v17, val_main_v16]
  simp only [v20_apply]

theorem v97_apply (t : Fin 16384) (e : Fin 16) (f : Fin 256) :
    val_main_v97 (F := Ideal) a.x a.gain a.wUp (ix3 t e f) = ∑ d, a.normed t d * a.wUp (ix4 0 e d f) := by
  pointwise [val_main_v97, val_main_v15, val_main_v14]
  simp only [v20_apply]

theorem v19_apply (e : Fin 16) (f : Fin 256) (d : Fin 1024) :
    val_main_v19 (F := Ideal) a.wDown (ix3 e f d) = a.wDown (ix4 0 e f d) := by
  pointwise [val_main_v19, val_main_v18]

theorem v98_apply (t : Fin 16384) (e : Fin 16) (f : Fin 256) :
    val_main_v98 (F := Ideal) a.x a.gain a.wUp a.wGate (ix3 t e f) = a.hidden t e f := by
  pointwise [val_main_v98, val_main_v96, val_main_call1_v5, val_main_call1_v4, val_main_call1_v3, val_main_call1_v2,
    val_main_call1_v1, val_main_call1_v0, val_main_call1_cst, val_main_call1_cst_0]
  rw [v95_apply, v97_apply]
  unfold Args.hidden
  rw [zero_sub]

theorem v37_apply (t : Fin 16384) :
    val_main_v37 (F := Ideal) a.x a.gain a.wGroup a.bGroup (ix1 t) = BitVec.ofNat 32 (order4 (a.groupScore t) 0).val := by
  pointwise [val_main_v37]
  unfold val_main_indices
  rw [top1_index]
  simp only [v25_apply]

end Cert.Proof
-- ==== Proof.RefRoute.lean ====
/- The reference's gates: its two softmaxes, its choice of the group and of the two experts, and the row of sixteen gates
   that it builds from one-hot rows, equal to the router's definition wherever the scores are numbers. -/
module

public import proofs.«01_k».proof.Proof.RefScores

@[expose] public section

set_option maxRecDepth 16384

noncomputable section

namespace Cert.Proof

open Idealize.ShloMosaic Cert.ReferenceIdeal Cert.ReferenceIdeal.Read

/-- An index in range, as a word, read as a number and clamped into the range. -/
theorem clamp_word {N : ℕ} (hN : N ≤ 2147483648) (k : Fin N) : min (BitVec.ofNat 32 k.val).toInt.toNat (N - 1) = k.val := by
  have hk := k.isLt
  have : (BitVec.ofNat 32 k.val).toInt = (k.val : ℤ) := by
    rw [BitVec.toInt_eq_toNat_cond, BitVec.toNat_ofNat]
    omega
  rw [this]
  omega

/-- A table lookup by a row and a column, both in range. -/
theorem gather_pair (x : FVec Ideal S16384x4 .f32) (idx : IVec S16384x2 32) (t : Fin 16384) (k : Fin 4)
    (h0 : idx (ix2 t 0) = BitVec.ofNat 32 t.val) (h1 : idx (ix2 t 1) = BitVec.ofNat 32 k.val) :
    Host.gather gather_S16384x4_S16384x2_S16384_n_01_n_n_01_1_11 x idx (ix1 t) = x (ix2 t k) := by
  unfold Host.gather
  congr 1
  funext a
  refine Fin.ext ?_
  set D := gather_S16384x4_S16384x2_S16384_n_01_n_n_01_1_11 with hD
  match a with
  | ⟨0, _⟩ =>
    show D.start (ix1 t) idx 0 + D.batchCoord (ix1 t) 0 + D.offCoord (ix1 t) 0 = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (0 : Fin 2) ∈ D.startIndexMap by decide)]
    have hsi : D.siIdx (ix1 t) ⟨List.idxOf (0 : Fin 2) D.startIndexMap, List.idxOf_lt_length_iff.2 (by decide)⟩ = ix2 t 0 := by
      funext b; refine Fin.ext ?_
      match b with
      | ⟨0, _⟩ => rfl
      | ⟨1, _⟩ => rfl
    rw [hsi, h0]
    exact clamp_word (by decide) t
  | ⟨1, _⟩ =>
    show D.start (ix1 t) idx 1 + D.batchCoord (ix1 t) 1 + D.offCoord (ix1 t) 1 = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (1 : Fin 2) ∈ D.startIndexMap by decide)]
    have hsi : D.siIdx (ix1 t) ⟨List.idxOf (1 : Fin 2) D.startIndexMap, List.idxOf_lt_length_iff.2 (by decide)⟩ = ix2 t 1 := by
      funext b; refine Fin.ext ?_
      match b with
      | ⟨0, _⟩ => rfl
      | ⟨1, _⟩ => rfl
    rw [hsi, h1]
    exact clamp_word (by decide) k

/-- A lookup of a row of four by two indices, both in range. -/
theorem gather_row (x : FVec Ideal S16384x4x4 .f32) (idx : IVec S16384x2 32) (t : Fin 16384) (k j : Fin 4)
    (h0 : idx (ix2 t 0) = BitVec.ofNat 32 t.val) (h1 : idx (ix2 t 1) = BitVec.ofNat 32 k.val) :
    Host.gather gather_S16384x4x4_S16384x2_S16384x4_1_01_n_n_01_1_114 x idx (ix2 t j) = x (ix3 t k j) := by
  unfold Host.gather
  congr 1
  funext a
  refine Fin.ext ?_
  set D := gather_S16384x4x4_S16384x2_S16384x4_1_01_n_n_01_1_114 with hD
  match a with
  | ⟨0, _⟩ =>
    show D.start (ix2 t j) idx 0 + D.batchCoord (ix2 t j) 0 + D.offCoord (ix2 t j) 0 = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (0 : Fin 3) ∈ D.startIndexMap by decide)]
    have hsi : D.siIdx (ix2 t j) ⟨List.idxOf (0 : Fin 3) D.startIndexMap, List.idxOf_lt_length_iff.2 (by decide)⟩ = ix2 t 0 := by
      funext b; refine Fin.ext ?_
      match b with
      | ⟨0, _⟩ => rfl
      | ⟨1, _⟩ => rfl
    rw [hsi, h0]
    exact clamp_word (by decide) t
  | ⟨1, _⟩ =>
    show D.start (ix2 t j) idx 1 + D.batchCoord (ix2 t j) 1 + D.offCoord (ix2 t j) 1 = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (1 : Fin 3) ∈ D.startIndexMap by decide)]
    have hsi : D.siIdx (ix2 t j) ⟨List.idxOf (1 : Fin 3) D.startIndexMap, List.idxOf_lt_length_iff.2 (by decide)⟩ = ix2 t 1 := by
      funext b; refine Fin.ext ?_
      match b with
      | ⟨0, _⟩ => rfl
      | ⟨1, _⟩ => rfl
    rw [hsi, h1]
    exact clamp_word (by decide) k
  | ⟨2, _⟩ =>
    show D.start (ix2 t j) idx 2 + D.batchCoord (ix2 t j) 2 + D.offCoord (ix2 t j) 2 = _
    rw [GatherDims.batchCoord_eq_zero _ _ _ List.not_mem_nil]
    have hs : D.start (ix2 t j) idx 2 = 0 := by
      unfold GatherDims.start
      rw [dif_neg (by decide)]
    rw [hs]
    simp only [Nat.add_zero, Nat.zero_add]
    rfl

/-- The greatest of a list that has a first greatest entry. -/
theorem fold_max_first {n : ℕ} (v : Fin n → EReal) (k : Fin n) (h : ∀ l, v l ≤ v k) :
    (Finset.univ.fold max ⊥ v) = v k :=
  le_antisymm ((Finset.fold_max_le (v k)).mpr ⟨bot_le, fun l _ => h l⟩)
    ((Finset.le_fold_max (v k)).mpr (Or.inr ⟨k, Finset.mem_univ _, le_rfl⟩))

/-- A number. -/
abbrev IsNum (x : EReal) : Prop := ∃ r : ℝ, x = (r : EReal)

theorem IsNum.exp_self {x : EReal} (h : IsNum x) : Ideal.exp (x - x) = 1 := by
  obtain ⟨r, rfl⟩ := h
  rw [← EReal.coe_sub, sub_self]
  show Ideal.exp ((0 : ℝ) : EReal) = 1
  rw [Ideal.exp_coe, Real.exp_zero]
  rfl

/-- A truth value as a number. -/
theorem uitofp_bool (b : Bool) : FloatOps.uitofp (F := Ideal) FTy.f32 (BitVec.ofBool b) = if b = true then 1 else 0 := by
  cases b
  · show (((0 : ℕ) : ℝ) : EReal) = 0; simp
  · show (((1 : ℕ) : ℝ) : EReal) = 1; simp

variable (a : Args) (t : Fin 16384)

/-- The group that token `t` goes to. -/
abbrev grp : Fin 4 := order4 (a.groupScore t) 0

/-- The scores of that group's four experts. -/
abbrev grpScore (j : Fin 4) : EReal := a.expertScore t ⟨4 * (grp a t).val + j.val, by omega⟩

theorem v36_apply (hg : ∀ j, IsNum (a.groupScore t j)) :
    val_main_v36 (F := Ideal) a.x a.gain a.wGroup a.bGroup (ix2 t (grp a t))
      = Ideal.div 1 (∑ j, Ideal.exp (a.groupScore t j - a.groupScore t (grp a t))) := by
  pointwise [val_main_v36, val_main_v35, val_main_v34, val_main_v33, val_main_v32, val_main_v31, val_main_v30, val_main_v29,
    val_main_v28, val_main_v27, val_main_v26, val_main_cst_2, val_main_cst_3, val_main_cst_4]
  simp only [v25_apply]
  rw [ofBits_negInf, fold_max_first _ (grp a t) (fun l => (order4_first _).1.2.1 l trivial), max_eq_right bot_le,
    (hg _).exp_self]

/-- Normalising an index that is not negative changes nothing. -/
theorem wrap_tok (t : Fin 16384) : Scalar.select (IntOp.cmpi CmpIPredicate.slt (BitVec.ofNat 32 t.val) 0#32)
    (IntOp.addi (BitVec.ofNat 32 t.val) 16384#32) (BitVec.ofNat 32 t.val) = BitVec.ofNat 32 t.val := by
  have h : IntOp.cmpi CmpIPredicate.slt (BitVec.ofNat 32 t.val) 0#32 = 0#1 := by
    show BitVec.ofBool ((BitVec.ofNat 32 t.val).slt 0#32) = _
    have : (BitVec.ofNat 32 t.val).slt 0#32 = false := by
      rw [BitVec.slt_eq_decide, BitVec.toInt_eq_toNat_cond, BitVec.toNat_ofNat]
      have := t.isLt
      simp
      omega
    rw [this]; rfl
  rw [h]; rfl

theorem wrap_grp : ∀ g : Fin 4, Scalar.select (IntOp.cmpi CmpIPredicate.slt (BitVec.ofNat 32 g.val) 0#32)
    (IntOp.addi (BitVec.ofNat 32 g.val) 4#32) (BitVec.ofNat 32 g.val) = BitVec.ofNat 32 g.val := by decide

theorem v50_apply : val_main_v50 (F := Ideal) a.x a.gain a.wGroup a.bGroup (ix2 t 0) = BitVec.ofNat 32 t.val
    ∧ val_main_v50 (F := Ideal) a.x a.gain a.wGroup a.bGroup (ix2 t 1) = BitVec.ofNat 32 (grp a t).val := by
  constructor <;>
  pointwise [val_main_v50, val_main_v49, val_main_v48, val_main_v47, val_main_v46, val_main_v45, val_main_v44, val_main_v43,
    val_main_v42, val_main_v41, val_main_v40, val_main_v39, val_main_v38, val_main_v21, val_main_c, val_main_c_5, val_main_c_6, val_main_c_7]
  · exact wrap_tok t
  · rw [v37_apply]; exact wrap_grp _

theorem v70_apply : val_main_v70 (F := Ideal) a.x a.gain a.wGroup a.bGroup (ix2 t 0) = BitVec.ofNat 32 t.val
    ∧ val_main_v70 (F := Ideal) a.x a.gain a.wGroup a.bGroup (ix2 t 1) = BitVec.ofNat 32 (grp a t).val := by
  constructor <;>
  pointwise [val_main_v70, val_main_v69, val_main_v68, val_main_v67, val_main_v66, val_main_v65, val_main_v64, val_main_v63,
    val_main_v62, val_main_v61, val_main_v60, val_main_v59, val_main_v58, val_main_v21, val_main_c_8, val_main_c_9, val_main_c_10, val_main_c_11]
  · exact wrap_tok t
  · rw [v37_apply]; exact wrap_grp _

theorem v51_apply (hg : ∀ j, IsNum (a.groupScore t j)) :
    val_main_v51 (F := Ideal) a.x a.gain a.wGroup a.bGroup (ix1 t)
      = Ideal.div 1 (∑ j, Ideal.exp (a.groupScore t j - a.groupScore t (grp a t))) := by
  unfold val_main_v51
  rw [gather_pair _ _ t (grp a t) (v50_apply a t).1 (v50_apply a t).2, v36_apply a t hg]

theorem v71_apply (j : Fin 4) :
    val_main_v71 (F := Ideal) a.x a.gain a.wGroup a.bGroup a.wRouter a.bRouter (ix2 t j) = grpScore a t j := by
  unfold val_main_v71
  rw [gather_row _ _ t (grp a t) j (v70_apply a t).1 (v70_apply a t).2, v57_apply]

theorem values_apply (k : Fin 2) :
    val_main_values_12 (F := Ideal) a.x a.gain a.wGroup a.bGroup a.wRouter a.bRouter (ix2 t k)
      = grpScore a t (order4 (grpScore a t) (k.castLE (by decide))) := by
  unfold val_main_values_12
  rw [top2_value]
  simp only [v71_apply]

theorem indices_apply (k : Fin 2) :
    val_main_indices_13 (F := Ideal) a.x a.gain a.wGroup a.bGroup a.wRouter a.bRouter (ix2 t k)
      = BitVec.ofNat 32 (order4 (grpScore a t) (k.castLE (by decide))).val := by
  unfold val_main_indices_13
  rw [top2_index]
  simp only [v71_apply]

theorem v82_apply (hr : ∀ e, IsNum (a.expertScore t e)) (k : Fin 2) :
    val_main_v82 (F := Ideal) a.x a.gain a.wGroup a.bGroup a.wRouter a.bRouter (ix2 t k)
      = Ideal.div (Ideal.exp (grpScore a t (order4 (grpScore a t) (k.castLE (by decide))) - grpScore a t (order4 (grpScore a t) 0)))
         (1 + Ideal.exp (grpScore a t (order4 (grpScore a t) 1) - grpScore a t (order4 (grpScore a t) 0))) := by
  pointwise [val_main_v82, val_main_v81, val_main_v80, val_main_v79, val_main_v78, val_main_v77, val_main_v76, val_main_v75,
    val_main_v74, val_main_v73, val_main_v72, val_main_cst_14, val_main_cst_15, val_main_cst_16]
  simp only [values_apply]
  have hmax : (Finset.univ.fold max ⊥ fun x : Fin 2 => grpScore a t (order4 (grpScore a t) (x.castLE (by decide))))
      = grpScore a t (order4 (grpScore a t) 0) :=
    fold_max_first _ 0 fun l => (order4_first (grpScore a t)).1.2.1 _ trivial
  rw [ofBits_negInf, hmax, max_eq_right bot_le, Fin.sum_univ_two]
  rw [show Fin.castLE (by decide : 2 ≤ 4) (0 : Fin 2) = 0 from rfl, show Fin.castLE (by decide : 2 ≤ 4) (1 : Fin 2) = 1 from rfl,
    (hr _).exp_self]

theorem expert_word : ∀ (g k : Fin 4) (e : Fin 16),
    IntOp.cmpi .eq (IntOp.addi (IntOp.muli (BitVec.ofNat 32 g.val) 4#32) (BitVec.ofNat 32 k.val)) (BitVec.ofNat 32 e.val)
      = BitVec.ofBool (decide (e.val = 4 * g.val + k.val)) := by decide +kernel

theorem v94_apply (hg : ∀ j, IsNum (a.groupScore t j)) (hr : ∀ e, IsNum (a.expertScore t e)) (e : Fin 16) :
    val_main_v94 (F := Ideal) a.x a.gain a.wGroup a.bGroup a.wRouter a.bRouter (ix2 t e) = a.gate t e := by
  pointwise [val_main_v94, val_main_v93, val_main_v92, val_main_v91, val_main_v90, val_main_v89, val_main_v88, val_main_v87,
    val_main_v86, val_main_v85, val_main_v84, val_main_v83, val_main_v52, val_main_call0_v4, val_main_call0_v3, val_main_call0_v2,
    val_main_call0_v1, val_main_call0_v0, val_main_c_17, val_main_cst_18]
  rw [v51_apply a t hg]
  simp only [v82_apply a t hr, indices_apply, v37_apply, expert_word]
  rw [Fin.sum_univ_two, uitofp_bool, uitofp_bool]
  have hne : order4 (grpScore a t) 1 ≠ order4 (grpScore a t) 0 := (order4_first (grpScore a t)).2.1
  simp only [show Fin.castLE (by decide : 2 ≤ 4) (0 : Fin 2) = 0 from rfl, show Fin.castLE (by decide : 2 ≤ 4) (1 : Fin 2) = 1 from rfl,
    (hr _).exp_self, decide_eq_true_eq]
  show _ = Ideal.div 1 (∑ j, Ideal.exp (a.groupScore t j - a.groupScore t (grp a t)))
    * ((if e.val = 4 * (grp a t).val + (order4 (grpScore a t) 0).val then
        Ideal.div 1 (1 + Ideal.exp (grpScore a t (order4 (grpScore a t) 1) - grpScore a t (order4 (grpScore a t) 0))) else 0)
      + (if e.val = 4 * (grp a t).val + (order4 (grpScore a t) 1).val then
        Ideal.div (Ideal.exp (grpScore a t (order4 (grpScore a t) 1) - grpScore a t (order4 (grpScore a t) 0)))
          (1 + Ideal.exp (grpScore a t (order4 (grpScore a t) 1) - grpScore a t (order4 (grpScore a t) 0))) else 0))
  by_cases h0 : e.val = 4 * (grp a t).val + (order4 (grpScore a t) 0).val
  · have h1 : ¬ e.val = 4 * (grp a t).val + (order4 (grpScore a t) 1).val := fun h => hne (Fin.ext (by omega))
    rw [if_pos h0, if_neg h1, if_pos h0, if_neg h1, one_mul, zero_mul, add_zero, add_zero, mul_comm]
  · by_cases h1 : e.val = 4 * (grp a t).val + (order4 (grpScore a t) 1).val
    · rw [if_neg h0, if_pos h1, if_neg h0, if_pos h1, one_mul, zero_mul, zero_add, zero_add, mul_comm]
    · rw [if_neg h0, if_neg h1, if_neg h0, if_neg h1, zero_mul, zero_mul, add_zero, mul_zero]

end Cert.Proof
-- ==== Proof.RefValue.lean ====
/- The reference's result, entry by entry, and the precondition's meaning: finite routing arguments have finite scores. -/
module

public import proofs.«01_k».proof.Proof.RefRoute
public import proofs.«01_k».proof.Proof.Gen.Pre_finite_routing

@[expose] public section

set_option maxRecDepth 16384

noncomputable section

namespace Cert.Proof

open Idealize.ShloMosaic Cert.ReferenceIdeal Cert.ReferenceIdeal.Read

variable (a : Args) (t : Fin 16384)

/-- Every score is a number. -/
def Args.Scored : Prop := ∀ t : Fin 16384, (∀ j, IsNum (a.groupScore t j)) ∧ ∀ e, IsNum (a.expertScore t e)

theorem v102_apply (h : a.Scored) (d : Fin 1024) :
    val_main_v102 (F := Ideal) a.x a.gain a.wGroup a.bGroup a.wRouter a.bRouter a.wUp a.wGate a.wDown (ix2 t d)
      = ∑ e, a.expertTerm t e d := by
  pointwise [val_main_v102]
  refine Finset.sum_congr rfl fun e _ => Finset.sum_congr rfl fun f _ => ?_
  rw [v19_apply]
  refine congrArg (· * _) ?_
  pointwise [val_main_v101, val_main_v100, val_main_v99]
  rw [v98_apply, v94_apply a t (h t).1 (h t).2]

theorem v105_apply (h : a.Scored) (d : Fin 1024) :
    val_main_v105 (F := Ideal) a.x a.gain a.wGroup a.bGroup a.wRouter a.bRouter a.wUp a.wGate a.wDown (ix2 t d) = a.result t d := by
  pointwise [val_main_v105, val_main_v104, val_main_v103]
  rw [v0_apply, v102_apply a t h]
  exact congrArg (a.x · + _) (congrArg (ix2 · d) (Fin.ext (Nat.div_add_mod t.val 2048)))

theorem IsNum.add {x y : EReal} (hx : IsNum x) (hy : IsNum y) : IsNum (x + y) := by
  obtain ⟨r, rfl⟩ := hx; obtain ⟨s, rfl⟩ := hy; exact ⟨r + s, (EReal.coe_add r s).symm⟩
theorem IsNum.mul {x y : EReal} (hx : IsNum x) (hy : IsNum y) : IsNum (x * y) := by
  obtain ⟨r, rfl⟩ := hx; obtain ⟨s, rfl⟩ := hy; exact ⟨r * s, (EReal.coe_mul r s).symm⟩
/-- A sum of real numbers, taken among the extended reals. -/
theorem sum_real {n : ℕ} (g : Fin n → ℝ) : ∑ k, ((g k : ℝ) : EReal) = ((∑ k, g k : ℝ) : EReal) :=
  (map_sum (⟨⟨Real.toEReal, EReal.coe_zero⟩, EReal.coe_add⟩ : ℝ →+ EReal) g Finset.univ).symm

theorem IsNum.sum {n : ℕ} {f : Fin n → EReal} (h : ∀ k, IsNum (f k)) : IsNum (∑ k, f k) := by
  choose g hg using h
  exact ⟨∑ k, g k, by rw [← sum_real]; exact Finset.sum_congr rfl fun k _ => hg k⟩

/-- A number divided by the root of its row's mean square, with a small constant added to it, and scaled, is a number. -/
theorem rms_isNum {f : Fin 1024 → EReal} {g : EReal} (hf : ∀ k, IsNum (f k)) (hg : IsNum g) (d : Fin 1024) :
    IsNum (f d * Ideal.rsqrt (Ideal.div (∑ k, f k * f k) (Ideal.ofBits .f32 1149239296#32) + Ideal.ofBits .f32 897988541#32) * g) := by
  refine ((hf d).mul ?_).mul hg
  choose u hu using hf
  obtain ⟨ε, hε, he⟩ := ofBits_eps
  rw [he, ofBits_1024]
  have hs : (∑ k, f k * f k) = ((∑ k, u k * u k : ℝ) : EReal) := by
    rw [← sum_real]
    exact Finset.sum_congr rfl fun k _ => by rw [hu k, EReal.coe_mul]
  have h0 : 0 ≤ ∑ k, u k * u k := Finset.sum_nonneg fun k _ => mul_self_nonneg _
  rw [hs, Ideal.div_coe (by norm_num), ← EReal.coe_mul, ← EReal.coe_add, Ideal.rsqrt_coe]
  have hp : 0 < (∑ k, u k * u k) * (1 / 1024) + ε := by positivity
  rw [if_neg (not_lt.2 hp.le), if_neg hp.ne']
  exact ⟨_, rfl⟩

/-- The routing arguments are numbers. -/
structure Args.Finite : Prop where
  x : ∀ i, IsNum (a.x i)
  gain : ∀ i, IsNum (a.gain i)
  wGroup : ∀ i, IsNum (a.wGroup i)
  bGroup : ∀ i, IsNum (a.bGroup i)
  wRouter : ∀ i, IsNum (a.wRouter i)
  bRouter : ∀ i, IsNum (a.bRouter i)

theorem Args.Finite.normed (h : a.Finite) (d : Fin 1024) : IsNum (a.normed t d) := rms_isNum (fun k => h.x (ix2 t k)) (h.gain _) d

theorem Args.Finite.scored (h : a.Finite) : a.Scored := fun t =>
  ⟨fun j => (IsNum.sum fun d => (h.normed a t d).mul (h.wGroup _)).add (h.bGroup _),
    fun e => (IsNum.sum fun d => (h.normed a t d).mul (h.wRouter _)).add (h.bRouter _)⟩

/-- What the precondition's printed test says of one entry. -/
theorem isNum_of_test (x : EReal) (h : FloatOps.cmpf (F := Ideal) (φ := .f32) .olt (max x (-x)) (Ideal.ofBits .f32 2139095040#32) = 1#1) :
    IsNum x := by
  rw [ofBits_posInf] at h
  have h' : max x (-x) < ⊤ := by
    by_contra hn
    rw [Ideal.cmpf_def] at h
    simp [Ideal.cmp, hn] at h
  induction x using EReal.rec with
  | bot => simp at h'
  | top => simp at h'
  | coe r => exact ⟨r, rfl⟩

/-- A printed test that holds everywhere makes the array finite. -/
theorem finite_of_test {s : Shape} (v : FVec Ideal s .f32)
    (b : (⟨0, ![]⟩ : Shape).BroadcastsInDim s (![] : Fin 0 → Fin s.rank))
    (hv : cmpf .olt (Host.absf v) (broadcastInDim s ![] b (constant ⟨0, ![]⟩ .f32 2139095040#32)) = fun _ => 1#1) (i : s.Idx) :
    IsNum (v i) := isNum_of_test (v i) (congrFun hv i)

/-- The precondition read: the routing arguments are finite. -/
theorem finite_of_pre (h :
    (Cert.Pre_finite_routing.fn (F := Ideal) a.x a.gain a.wGroup a.bGroup a.wRouter a.bRouter a.wUp a.wGate a.wDown).1 = (fun _ => 1#1)
    ∧ (Cert.Pre_finite_routing.fn (F := Ideal) a.x a.gain a.wGroup a.bGroup a.wRouter a.bRouter a.wUp a.wGate a.wDown).2.1 = (fun _ => 1#1)
    ∧ (Cert.Pre_finite_routing.fn (F := Ideal) a.x a.gain a.wGroup a.bGroup a.wRouter a.bRouter a.wUp a.wGate a.wDown).2.2.1 = (fun _ => 1#1)
    ∧ (Cert.Pre_finite_routing.fn (F := Ideal) a.x a.gain a.wGroup a.bGroup a.wRouter a.bRouter a.wUp a.wGate a.wDown).2.2.2.1 = (fun _ => 1#1)
    ∧ (Cert.Pre_finite_routing.fn (F := Ideal) a.x a.gain a.wGroup a.bGroup a.wRouter a.bRouter a.wUp a.wGate a.wDown).2.2.2.2.1 = (fun _ => 1#1)
    ∧ (Cert.Pre_finite_routing.fn (F := Ideal) a.x a.gain a.wGroup a.bGroup a.wRouter a.bRouter a.wUp a.wGate a.wDown).2.2.2.2.2 = (fun _ => 1#1)) :
    a.Finite :=
  ⟨finite_of_test a.x _ h.1, finite_of_test a.gain _ h.2.1, finite_of_test a.wGroup _ h.2.2.1,
    finite_of_test a.bGroup _ h.2.2.2.1, finite_of_test a.wRouter _ h.2.2.2.2.1, finite_of_test a.bRouter _ h.2.2.2.2.2⟩

end Cert.Proof
-- ==== Proof.Moe.lean ====
/- The claims about the mixture-of-experts call. -/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Fold
public import proofs.«01_k».proof.Proof.RefValue
public import Idealize.ShloMosaic.Lib.Claim

@[expose] public section

noncomputable section

namespace Cert.Proof.Moe

open Idealize.ShloMosaic Idealize.SL.Sem

theorem frame_kernel : Cert.quiescent_Kernel := fun m ρ _ => Cert.Kernel.Gen.frame m ρ

theorem frame_ideal : Cert.quiescent_KernelIdeal := fun m ρ _ => Cert.KernelIdeal.Gen.frame m ρ

theorem frame_ideal_pre : Cert.quiescent_KernelIdeal_pre_finite_routing := fun m ρ _ => Cert.KernelIdeal.Gen.frame m ρ

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference_pre : Cert.quiescent_ReferenceIdeal_pre_finite_routing := fun m ρ _ => frame_reference m ρ trivial

theorem preserves : Cert.preserves_Kernel_KernelIdeal := trivial

/-- Kernel and reference end with the layer's result of the same arguments. -/
theorem algebraic : Cert.algebraic_KernelIdeal_ReferenceIdeal_pre_finite_routing := by
  intro m g m' g' hpre hagree
  refine ⟨_, Cert.KernelIdeal.Value.run (F := Ideal) m g, ?_⟩
  refine (θ_run Cert.ReferenceIdeal.defs _ _).mono (fun _ h c => ⟨(h c).1.trans ?_, (h c).2⟩)
    (Cert.ReferenceIdeal.Value.run (F := Ideal) m' g')
  obtain ⟨h0, h1, h2, h3, h4, h5, h6, h7, h8⟩ := hagree c
  rw [Cert.ReferenceIdeal.Read.val_main_v105_eq, h0, h1, h2, h3, h4, h5, h6, h7, h8]
  have hs : (argsOf m c).Scored := (finite_of_pre (argsOf m c) (hpre c)).scored
  funext i
  rw [G7_apply m c i, ← v105_apply (argsOf m c) (i 0) hs (i 1)]
  exact congrArg (Cert.ReferenceIdeal.Read.val_main_v105 (F := Ideal) _ _ _ _ _ _ _ _ _) (eq_ix2 i)

end Cert.Proof.Moe
-- ==== Proof.InProj.lean ====
/- The input projection of the even layers: 512 tokens a grid point, normed, times seven ranges of the weights' columns; the
   last range is the eight gates and 120 columns of zeros. -/
module

public import proofs.«01_k».proof.Defs
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import Idealize.ShloMosaic.Lib.Pipeline.ValueKit
public import Idealize.ShloMosaic.Lib.KernelVsHost
public import Idealize.ShloMosaic.Lib.Claim

@[expose] public section

set_option maxRecDepth 16384

noncomputable section

namespace Cert.Proof.InProj

open Idealize.ShloMosaic Idealize.ShloMosaic.TcCoe Idealize.SL.Sem
open Cert.Kernel2Ideal Cert.Kernel2Ideal.Gen

/-- A token normed, entry by entry. -/
def normed (x : FVec Ideal S16384x1024 .f32) (g : FVec Ideal S1024 .f32) (r : Fin 16384) (d : Fin 1024) : EReal :=
  x (ix2 r d) * Ideal.rsqrt (Ideal.div (∑ k, x (ix2 r k) * x (ix2 r k)) (Ideal.ofBits .f32 1149239296#32)
    + Ideal.ofBits .f32 897988541#32) * g (ix1 d)

/-- The normed token times one column of the weights. -/
def column (x : FVec Ideal S16384x1024 .f32) (g : FVec Ideal S1024 .f32) (w : FVec Ideal S1024x3592 .f32)
    (r : Fin 16384) (j : Fin 3592) : EReal := ∑ k, normed x g r k * w (ix2 k j)

/-- The normed token times one column of the gates' range, which is zero past the eighth. -/
def gateColumn (x : FVec Ideal S16384x1024 .f32) (g : FVec Ideal S1024 .f32) (w : FVec Ideal S1024x3592 .f32)
    (r : Fin 16384) (j : Fin 128) : EReal := if h : j.val < 8 then column x g w r ⟨3584 + j.val, by omega⟩ else 0

/-- The padding word, the number zero. -/
theorem zero_word : FloatOps.sitofp (F := Ideal) FTy.f32 (0#32) = (0 : EReal) := by
  show (((0#32 : BitVec 32).toInt : ℝ) : EReal) = 0
  simp

section Kernel

variable (m : (ℓ : Loc nD τ sig) → Buf (Elt Ideal) ℓ)

/-- The tokens. -/
abbrev argX (c : Dev nD) : FVec Ideal S16384x1024 .f32 := m (c, Proc.tc.devRef main_arg0)
/-- The norm's gain. -/
abbrev argG (c : Dev nD) : FVec Ideal S1024 .f32 := m (c, Proc.tc.devRef main_arg1)
/-- The weights. -/
abbrev argW (c : Dev nD) : FVec Ideal S1024x3592 .f32 := m (c, Proc.tc.devRef main_arg2)

theorem idx_x : ∀ t : Fin grid0.N, win0_0.index t = ![t.val, 0] := by decide +kernel
theorem idx_w : ∀ t : Fin grid0.N, win0_1.index t = ![0, 0] := by decide +kernel
theorem idx_g : ∀ t : Fin grid0.N, win0_2.index t = ![0, 0] := by decide +kernel

/-- The token of row `r` in the block of point `t`. -/
def tok (t : Fin cfg0.N) (r : Fin 512) : Fin 16384 :=
  ⟨512 * t.val + r.val, by have := lt_of_lt_of_eq t.isLt (show cfg0.N = 32 from N_0); omega⟩

theorem x_apply (c : Dev nD) (t : Fin cfg0.N) (r : Fin 512) (d : Fin 1024) :
    (iblk m c 0 t : Vec Ideal S512x1024 .f32) (ix2 r d) = argX m c (ix2 (tok t r) d) := by
  blk_point [iblk, V, idx_x t, tok, argX]
/-- The weights with 120 zero columns after them, as the host pads them. -/
def wPad (w : FVec Ideal S1024x3592 .f32) : FVec Ideal S1024x3712 .f32 :=
  pad S1024x3712 ![0, 0] ![0, 120] ![0, 0] w (sitofp .f32 (constantI S_ 32 0#32)) pads_S1024x3592_S1024x3712_000_01200 h_S_

theorem gain_eq (c : Dev nD) : (V m c main_v2 : FVec Ideal S1x1024 .f32)
    = shapeCast S1x1024 (argG m c) shapeCasts_S1024_S1x1024 := rfl
theorem weights_eq (c : Dev nD) : (V m c main_v1 : FVec Ideal S1024x3712 .bf16)
    = truncf .bf16 (wPad (argW m c)) bitsLt_bf16_f32 := rfl

theorem whole_g (c : Dev nD) (t : Fin cfg0.N) (y : S1x1024.Idx) :
    (iblk m c 2 t : Vec Ideal S1x1024 .f32) y = (V m c main_v2 : FVec Ideal S1x1024 .f32) y := by
  blk_simp [iblk]
  blk_ext [idx_g t]
theorem whole_w (c : Dev nD) (t : Fin cfg0.N) (y : S1024x3712.Idx) :
    (iblk m c 1 t : Vec Ideal S1024x3712 .bf16) y = (V m c main_v1 : FVec Ideal S1024x3712 .bf16) y := by
  blk_simp [iblk]
  blk_ext [idx_w t]

theorem g_apply (c : Dev nD) (t : Fin cfg0.N) (d : Fin 1024) :
    (iblk m c 2 t : Vec Ideal S1x1024 .f32) (ix2 0 d) = argG m c (ix1 d) := by
  rw [whole_g, gain_eq]
  pointwise

/-- The weights with their zero columns, as the host leaves them. -/
def padded (w : FVec Ideal S1024x3592 .f32) (k : Fin 1024) (j : Fin 3712) : EReal :=
  if h : j.val < 3592 then w (ix2 k ⟨j.val, h⟩) else 0

theorem w_apply (c : Dev nD) (t : Fin cfg0.N) (k : Fin 1024) (j : Fin 3712) :
    (iblk m c 1 t : Vec Ideal S1024x3712 .bf16) (ix2 k j) = padded (argW m c) k j := by
  rw [whole_w, weights_eq]
  show wPad (argW m c) (ix2 k j) = _
  unfold wPad padded
  by_cases h : j.val < 3592
  · rw [dif_pos h]
    refine pad_apply_of_inside _ _ _ _ _ _ _ _ (ix2 k ⟨j.val, h⟩) fun a => ?_
    match a with
    | ⟨0, _⟩ => show k.val = 0 + k.val * (0 + 1); omega
    | ⟨1, _⟩ => show j.val = 0 + j.val * (0 + 1); omega
  · rw [dif_neg h]
    refine (pad_apply_of_not_inside _ _ _ _ _ _ _ _ (1 : Fin 2) fun ha => h ?_).trans ?_
    · have h2 : (j.val - 0) / (0 + 1) < 3592 := ha.2.2
      rw [Nat.sub_zero, Nat.zero_add, Nat.div_one] at h2
      exact h2
    · exact zero_word

theorem normed_apply (c : Dev nD) (t : Fin cfg0.N) (r : Fin 512) (d : Fin 1024) :
    k0_pay4 (iblk m c 0 t) (iblk m c 2 t) (ix2 r d)
      = normed (argX m c) (argG m c) (tok t r) d := by
  pointwise [k0_pay4, normed]
  rw [g_apply]
  simp only [x_apply]
theorem kept_apply (c : Dev nD) (t : Fin cfg0.N) (r : Fin 512) (d : Fin 1024) :
    k0_pay9 (iblk m c 0 t) (iblk m c 1 t) (iblk m c 2 t) (ix2 r d) = normed (argX m c) (argG m c) (tok t r) d := by
  unfold k0_pay9
  pointwise [k0_pay4, normed]
  rw [g_apply]
  simp only [x_apply]

/-! Output window 3: the columns from 0. -/

/-- The product with the columns from 0. -/
def value3 (x : FVec Ideal S16384x1024 .f32) (g : FVec Ideal S1024 .f32) (w : FVec Ideal S1024x3592 .f32) :
    FVec Ideal S16384x512 .f32 := fun i => column x g w (i 0) ⟨(i 1).val, by have := (i 1).isLt; show _ < 3592; have h : (i 1).val < 512 := this; omega⟩

theorem payload3 (c : Dev nD) (t : Fin cfg0.N) (r : Fin 512) (d : Fin 512) :
    k0_pay5 (iblk m c 0 t) (iblk m c 2 t) (View.ld (iblk m c 1 t) r0_2) (ix2 r d)
      = value3 (argX m c) (argG m c) (argW m c) (ix2 (tok t r) d) := by
  pointwise [k0_pay5, value3, column]
  refine Finset.sum_congr rfl fun k _ => congrArg₂ (· * ·) (normed_apply m c t r k) ?_
  refine (w_apply m c t k ⟨d.val, by omega⟩).trans ?_
  unfold padded
  rw [dif_pos (show d.val < 3592 by omega)]

theorem idx_3 : ∀ t : Fin grid0.N, win0_3.index t = ![t.val, 0] := by decide +kernel

theorem emb_3 (t : Fin cfg0.N) (r : Fin 512) (d : Fin 512) :
    ((View.whole main_v3_0).slice (win0_3.rect t)).emb (ix2 r d) = ix2 (tok t r) d := by
  have e := idx_3 t
  have e0 : win0_3.index t (0 : Fin 2) = t.val := congrFun e 0
  have e1 : win0_3.index t (1 : Fin 2) = 0 := congrFun e 1
  funext a
  apply Fin.ext
  match a with
  | ⟨0, _⟩ => show win0_3.index t (0 : Fin 2) * 512 + 1 * r.val = 512 * t.val + r.val; omega
  | ⟨1, _⟩ => show win0_3.index t (1 : Fin 2) * 512 + 1 * d.val = d.val; omega

theorem result_3 (c : Dev nD) : (dats m 0 c).arrAt 3 cfg0.N = value3 (argX m c) (argG m c) (argW m c) := by
  refine (dats m 0 c).arrAt_eq_of_covers 3 _ (by decide +kernel) fun t _ y => ?_
  blk_simp
  rw [after0_3]
  frame_out
  obtain ⟨r, d, rfl⟩ : ∃ (r : Fin 512) (d : Fin 512), y = ix2 r d := ⟨_, _, eq_ix2 y⟩
  exact (payload3 m c t r d).trans (congrArg _ (emb_3 t r d).symm)

/-! Output window 4: the columns from 512. -/

/-- The product with the columns from 512. -/
def value4 (x : FVec Ideal S16384x1024 .f32) (g : FVec Ideal S1024 .f32) (w : FVec Ideal S1024x3592 .f32) :
    FVec Ideal S16384x512 .f32 := fun i => column x g w (i 0) ⟨512 + (i 1).val, by have := (i 1).isLt; show _ < 3592; have h : (i 1).val < 512 := this; omega⟩

theorem payload4 (c : Dev nD) (t : Fin cfg0.N) (r : Fin 512) (d : Fin 512) :
    k0_pay6 (iblk m c 0 t) (iblk m c 2 t) (View.ld (iblk m c 1 t) r0_4) (ix2 r d)
      = value4 (argX m c) (argG m c) (argW m c) (ix2 (tok t r) d) := by
  pointwise [k0_pay6, value4, column]
  refine Finset.sum_congr rfl fun k _ => congrArg₂ (· * ·) (normed_apply m c t r k) ?_
  refine (w_apply m c t k ⟨512 + d.val, by omega⟩).trans ?_
  unfold padded
  rw [dif_pos (show 512 + d.val < 3592 by omega)]

theorem idx_4 : ∀ t : Fin grid0.N, win0_4.index t = ![t.val, 0] := by decide +kernel

theorem emb_4 (t : Fin cfg0.N) (r : Fin 512) (d : Fin 512) :
    ((View.whole main_v3_1).slice (win0_4.rect t)).emb (ix2 r d) = ix2 (tok t r) d := by
  have e := idx_4 t
  have e0 : win0_4.index t (0 : Fin 2) = t.val := congrFun e 0
  have e1 : win0_4.index t (1 : Fin 2) = 0 := congrFun e 1
  funext a
  apply Fin.ext
  match a with
  | ⟨0, _⟩ => show win0_4.index t (0 : Fin 2) * 512 + 1 * r.val = 512 * t.val + r.val; omega
  | ⟨1, _⟩ => show win0_4.index t (1 : Fin 2) * 512 + 1 * d.val = d.val; omega

theorem result_4 (c : Dev nD) : (dats m 0 c).arrAt 4 cfg0.N = value4 (argX m c) (argG m c) (argW m c) := by
  refine (dats m 0 c).arrAt_eq_of_covers 4 _ (by decide +kernel) fun t _ y => ?_
  blk_simp
  rw [after0_4]
  frame_out
  obtain ⟨r, d, rfl⟩ : ∃ (r : Fin 512) (d : Fin 512), y = ix2 r d := ⟨_, _, eq_ix2 y⟩
  exact (payload4 m c t r d).trans (congrArg _ (emb_4 t r d).symm)

/-! Output window 5: the columns from 1024. -/

/-- The product with the columns from 1024. -/
def value5 (x : FVec Ideal S16384x1024 .f32) (g : FVec Ideal S1024 .f32) (w : FVec Ideal S1024x3592 .f32) :
    FVec Ideal S16384x512 .f32 := fun i => column x g w (i 0) ⟨1024 + (i 1).val, by have := (i 1).isLt; show _ < 3592; have h : (i 1).val < 512 := this; omega⟩

theorem payload5 (c : Dev nD) (t : Fin cfg0.N) (r : Fin 512) (d : Fin 512) :
    k0_pay7 (iblk m c 0 t) (iblk m c 2 t) (View.ld (iblk m c 1 t) r0_5) (ix2 r d)
      = value5 (argX m c) (argG m c) (argW m c) (ix2 (tok t r) d) := by
  pointwise [k0_pay7, value5, column]
  refine Finset.sum_congr rfl fun k _ => congrArg₂ (· * ·) (normed_apply m c t r k) ?_
  refine (w_apply m c t k ⟨1024 + d.val, by omega⟩).trans ?_
  unfold padded
  rw [dif_pos (show 1024 + d.val < 3592 by omega)]

theorem idx_5 : ∀ t : Fin grid0.N, win0_5.index t = ![t.val, 0] := by decide +kernel

theorem emb_5 (t : Fin cfg0.N) (r : Fin 512) (d : Fin 512) :
    ((View.whole main_v3_2).slice (win0_5.rect t)).emb (ix2 r d) = ix2 (tok t r) d := by
  have e := idx_5 t
  have e0 : win0_5.index t (0 : Fin 2) = t.val := congrFun e 0
  have e1 : win0_5.index t (1 : Fin 2) = 0 := congrFun e 1
  funext a
  apply Fin.ext
  match a with
  | ⟨0, _⟩ => show win0_5.index t (0 : Fin 2) * 512 + 1 * r.val = 512 * t.val + r.val; omega
  | ⟨1, _⟩ => show win0_5.index t (1 : Fin 2) * 512 + 1 * d.val = d.val; omega

theorem result_5 (c : Dev nD) : (dats m 0 c).arrAt 5 cfg0.N = value5 (argX m c) (argG m c) (argW m c) := by
  refine (dats m 0 c).arrAt_eq_of_covers 5 _ (by decide +kernel) fun t _ y => ?_
  blk_simp
  rw [after0_5]
  frame_out
  obtain ⟨r, d, rfl⟩ : ∃ (r : Fin 512) (d : Fin 512), y = ix2 r d := ⟨_, _, eq_ix2 y⟩
  exact (payload5 m c t r d).trans (congrArg _ (emb_5 t r d).symm)

/-! Output window 6: the columns from 1536. -/

/-- The product with the columns from 1536. -/
def value6 (x : FVec Ideal S16384x1024 .f32) (g : FVec Ideal S1024 .f32) (w : FVec Ideal S1024x3592 .f32) :
    FVec Ideal S16384x1024 .f32 := fun i => column x g w (i 0) ⟨1536 + (i 1).val, by have := (i 1).isLt; show _ < 3592; have h : (i 1).val < 1024 := this; omega⟩

theorem payload6 (c : Dev nD) (t : Fin cfg0.N) (r : Fin 512) (d : Fin 1024) :
    k0_pay8 (iblk m c 0 t) (iblk m c 2 t) (View.ld (iblk m c 1 t) r0_6) (ix2 r d)
      = value6 (argX m c) (argG m c) (argW m c) (ix2 (tok t r) d) := by
  pointwise [k0_pay8, value6, column]
  refine Finset.sum_congr rfl fun k _ => congrArg₂ (· * ·) (normed_apply m c t r k) ?_
  refine (w_apply m c t k ⟨1536 + d.val, by omega⟩).trans ?_
  unfold padded
  rw [dif_pos (show 1536 + d.val < 3592 by omega)]

theorem idx_6 : ∀ t : Fin grid0.N, win0_6.index t = ![t.val, 0] := by decide +kernel

theorem emb_6 (t : Fin cfg0.N) (r : Fin 512) (d : Fin 1024) :
    ((View.whole main_v3_3).slice (win0_6.rect t)).emb (ix2 r d) = ix2 (tok t r) d := by
  have e := idx_6 t
  have e0 : win0_6.index t (0 : Fin 2) = t.val := congrFun e 0
  have e1 : win0_6.index t (1 : Fin 2) = 0 := congrFun e 1
  funext a
  apply Fin.ext
  match a with
  | ⟨0, _⟩ => show win0_6.index t (0 : Fin 2) * 512 + 1 * r.val = 512 * t.val + r.val; omega
  | ⟨1, _⟩ => show win0_6.index t (1 : Fin 2) * 1024 + 1 * d.val = d.val; omega

theorem result_6 (c : Dev nD) : (dats m 0 c).arrAt 6 cfg0.N = value6 (argX m c) (argG m c) (argW m c) := by
  refine (dats m 0 c).arrAt_eq_of_covers 6 _ (by decide +kernel) fun t _ y => ?_
  blk_simp
  rw [after0_6]
  frame_out
  obtain ⟨r, d, rfl⟩ : ∃ (r : Fin 512) (d : Fin 1024), y = ix2 r d := ⟨_, _, eq_ix2 y⟩
  exact (payload6 m c t r d).trans (congrArg _ (emb_6 t r d).symm)

/-! Output window 7: the columns from 2560. -/

/-- The product with the columns from 2560. -/
def value7 (x : FVec Ideal S16384x1024 .f32) (g : FVec Ideal S1024 .f32) (w : FVec Ideal S1024x3592 .f32) :
    FVec Ideal S16384x512 .f32 := fun i => column x g w (i 0) ⟨2560 + (i 1).val, by have := (i 1).isLt; show _ < 3592; have h : (i 1).val < 512 := this; omega⟩

theorem payload7 (c : Dev nD) (t : Fin cfg0.N) (r : Fin 512) (d : Fin 512) :
    k0_pay1 (k0_pay9 (iblk m c 0 t) (iblk m c 1 t) (iblk m c 2 t)) (View.ld (iblk m c 1 t) r0_7) (ix2 r d)
      = value7 (argX m c) (argG m c) (argW m c) (ix2 (tok t r) d) := by
  pointwise [k0_pay1, value7, column]
  refine Finset.sum_congr rfl fun k _ => congrArg₂ (· * ·) (kept_apply m c t r k) ?_
  refine (w_apply m c t k ⟨2560 + d.val, by omega⟩).trans ?_
  unfold padded
  rw [dif_pos (show 2560 + d.val < 3592 by omega)]

theorem idx_7 : ∀ t : Fin grid0.N, win0_7.index t = ![t.val, 0] := by decide +kernel

theorem emb_7 (t : Fin cfg0.N) (r : Fin 512) (d : Fin 512) :
    ((View.whole main_v3_4).slice (win0_7.rect t)).emb (ix2 r d) = ix2 (tok t r) d := by
  have e := idx_7 t
  have e0 : win0_7.index t (0 : Fin 2) = t.val := congrFun e 0
  have e1 : win0_7.index t (1 : Fin 2) = 0 := congrFun e 1
  funext a
  apply Fin.ext
  match a with
  | ⟨0, _⟩ => show win0_7.index t (0 : Fin 2) * 512 + 1 * r.val = 512 * t.val + r.val; omega
  | ⟨1, _⟩ => show win0_7.index t (1 : Fin 2) * 512 + 1 * d.val = d.val; omega

theorem result_7 (c : Dev nD) : (dats m 0 c).arrAt 7 cfg0.N = value7 (argX m c) (argG m c) (argW m c) := by
  refine (dats m 0 c).arrAt_eq_of_covers 7 _ (by decide +kernel) fun t _ y => ?_
  blk_simp
  rw [after0_7]
  frame_out
  obtain ⟨r, d, rfl⟩ : ∃ (r : Fin 512) (d : Fin 512), y = ix2 r d := ⟨_, _, eq_ix2 y⟩
  exact (payload7 m c t r d).trans (congrArg _ (emb_7 t r d).symm)

/-! Output window 8: the columns from 3072. -/

/-- The product with the columns from 3072. -/
def value8 (x : FVec Ideal S16384x1024 .f32) (g : FVec Ideal S1024 .f32) (w : FVec Ideal S1024x3592 .f32) :
    FVec Ideal S16384x512 .f32 := fun i => column x g w (i 0) ⟨3072 + (i 1).val, by have := (i 1).isLt; show _ < 3592; have h : (i 1).val < 512 := this; omega⟩

theorem payload8 (c : Dev nD) (t : Fin cfg0.N) (r : Fin 512) (d : Fin 512) :
    k0_pay2 (k0_pay9 (iblk m c 0 t) (iblk m c 1 t) (iblk m c 2 t)) (View.ld (iblk m c 1 t) r0_8) (ix2 r d)
      = value8 (argX m c) (argG m c) (argW m c) (ix2 (tok t r) d) := by
  pointwise [k0_pay2, value8, column]
  refine Finset.sum_congr rfl fun k _ => congrArg₂ (· * ·) (kept_apply m c t r k) ?_
  refine (w_apply m c t k ⟨3072 + d.val, by omega⟩).trans ?_
  unfold padded
  rw [dif_pos (show 3072 + d.val < 3592 by omega)]

theorem idx_8 : ∀ t : Fin grid0.N, win0_8.index t = ![t.val, 0] := by decide +kernel

theorem emb_8 (t : Fin cfg0.N) (r : Fin 512) (d : Fin 512) :
    ((View.whole main_v3_5).slice (win0_8.rect t)).emb (ix2 r d) = ix2 (tok t r) d := by
  have e := idx_8 t
  have e0 : win0_8.index t (0 : Fin 2) = t.val := congrFun e 0
  have e1 : win0_8.index t (1 : Fin 2) = 0 := congrFun e 1
  funext a
  apply Fin.ext
  match a with
  | ⟨0, _⟩ => show win0_8.index t (0 : Fin 2) * 512 + 1 * r.val = 512 * t.val + r.val; omega
  | ⟨1, _⟩ => show win0_8.index t (1 : Fin 2) * 512 + 1 * d.val = d.val; omega

theorem result_8 (c : Dev nD) : (dats m 0 c).arrAt 8 cfg0.N = value8 (argX m c) (argG m c) (argW m c) := by
  refine (dats m 0 c).arrAt_eq_of_covers 8 _ (by decide +kernel) fun t _ y => ?_
  blk_simp
  rw [after0_8]
  frame_out
  obtain ⟨r, d, rfl⟩ : ∃ (r : Fin 512) (d : Fin 512), y = ix2 r d := ⟨_, _, eq_ix2 y⟩
  exact (payload8 m c t r d).trans (congrArg _ (emb_8 t r d).symm)

/-! Output window 9: the gates. -/

/-- The gates and their zero columns. -/
def value9 (x : FVec Ideal S16384x1024 .f32) (g : FVec Ideal S1024 .f32) (w : FVec Ideal S1024x3592 .f32) :
    FVec Ideal S16384x128 .f32 := fun i => gateColumn x g w (i 0) (i 1)

theorem payload9 (c : Dev nD) (t : Fin cfg0.N) (r : Fin 512) (d : Fin 128) :
    k0_pay3 (k0_pay9 (iblk m c 0 t) (iblk m c 1 t) (iblk m c 2 t)) (View.ld (iblk m c 1 t) r0_9) (ix2 r d)
      = value9 (argX m c) (argG m c) (argW m c) (ix2 (tok t r) d) := by
  pointwise [k0_pay3, value9, gateColumn, column]
  have hw : ∀ k : Fin 1024, (iblk m c 1 t : Vec Ideal S1024x3712 .bf16) (ix2 k ⟨3584 + d.val, by omega⟩)
      = padded (argW m c) k ⟨3584 + d.val, by omega⟩ := fun k => w_apply m c t k _
  by_cases h : d.val < 8
  · rw [dif_pos h]
    refine Finset.sum_congr rfl fun k _ => congrArg₂ (· * ·) (kept_apply m c t r k) ?_
    refine (hw k).trans ?_
    unfold padded
    rw [dif_pos (show 3584 + d.val < 3592 by omega)]
  · rw [dif_neg h]
    refine Finset.sum_eq_zero fun k _ => ?_
    refine (congrArg (_ * ·) ((hw k).trans ?_)).trans (mul_zero _)
    unfold padded
    rw [dif_neg (show ¬ 3584 + d.val < 3592 by omega)]

theorem idx_9 : ∀ t : Fin grid0.N, win0_9.index t = ![t.val, 0] := by decide +kernel

theorem emb_9 (t : Fin cfg0.N) (r : Fin 512) (d : Fin 128) :
    ((View.whole main_v3_6).slice (win0_9.rect t)).emb (ix2 r d) = ix2 (tok t r) d := by
  have e := idx_9 t
  have e0 : win0_9.index t (0 : Fin 2) = t.val := congrFun e 0
  have e1 : win0_9.index t (1 : Fin 2) = 0 := congrFun e 1
  funext a
  apply Fin.ext
  match a with
  | ⟨0, _⟩ => show win0_9.index t (0 : Fin 2) * 512 + 1 * r.val = 512 * t.val + r.val; omega
  | ⟨1, _⟩ => show win0_9.index t (1 : Fin 2) * 128 + 1 * d.val = d.val; omega

theorem result_9 (c : Dev nD) : (dats m 0 c).arrAt 9 cfg0.N = value9 (argX m c) (argG m c) (argW m c) := by
  refine (dats m 0 c).arrAt_eq_of_covers 9 _ (by decide +kernel) fun t _ y => ?_
  blk_simp
  rw [after0_9]
  frame_out
  obtain ⟨r, d, rfl⟩ : ∃ (r : Fin 512) (d : Fin 128), y = ix2 r d := ⟨_, _, eq_ix2 y⟩
  exact (payload9 m c t r d).trans (congrArg _ (emb_9 t r d).symm)

end Kernel

section Reference

open Cert.Reference2Ideal.Read

variable (x : FVec Ideal S16384x1024 .f32) (g : FVec Ideal S1024 .f32) (w : FVec Ideal S1024x3592 .f32)

theorem product_apply (r : Fin 16384) (j : Fin 3592) : val_main_v13 (F := Ideal) x g w (ix2 r j) = column x g w r j := by
  pointwise [val_main_v13, val_main_v12, val_main_v11, val_main_v10, val_main_v9, val_main_v8, val_main_v7, val_main_v6,
    val_main_v5, val_main_v4, val_main_v3, val_main_v2, val_main_v1, val_main_v0, val_main_cst, val_main_cst_0,
    val_main_cst_1, column, normed]

theorem reference_3 : val_main_v14 (F := Ideal) x g w = value3 x g w := by
  funext i
  obtain ⟨r, d, rfl⟩ : ∃ (r : Fin 16384) (d : Fin 512), i = ix2 r d := ⟨_, _, eq_ix2 i⟩
  pointwise [val_main_v14, value3]
  exact product_apply x g w r _

theorem reference_4 : val_main_v15 (F := Ideal) x g w = value4 x g w := by
  funext i
  obtain ⟨r, d, rfl⟩ : ∃ (r : Fin 16384) (d : Fin 512), i = ix2 r d := ⟨_, _, eq_ix2 i⟩
  pointwise [val_main_v15, value4]
  exact product_apply x g w r _

theorem reference_5 : val_main_v16 (F := Ideal) x g w = value5 x g w := by
  funext i
  obtain ⟨r, d, rfl⟩ : ∃ (r : Fin 16384) (d : Fin 512), i = ix2 r d := ⟨_, _, eq_ix2 i⟩
  pointwise [val_main_v16, value5]
  exact product_apply x g w r _

theorem reference_6 : val_main_v17 (F := Ideal) x g w = value6 x g w := by
  funext i
  obtain ⟨r, d, rfl⟩ : ∃ (r : Fin 16384) (d : Fin 1024), i = ix2 r d := ⟨_, _, eq_ix2 i⟩
  pointwise [val_main_v17, value6]
  exact product_apply x g w r _

theorem reference_7 : val_main_v18 (F := Ideal) x g w = value7 x g w := by
  funext i
  obtain ⟨r, d, rfl⟩ : ∃ (r : Fin 16384) (d : Fin 512), i = ix2 r d := ⟨_, _, eq_ix2 i⟩
  pointwise [val_main_v18, value7]
  exact product_apply x g w r _

theorem reference_8 : val_main_v19 (F := Ideal) x g w = value8 x g w := by
  funext i
  obtain ⟨r, d, rfl⟩ : ∃ (r : Fin 16384) (d : Fin 512), i = ix2 r d := ⟨_, _, eq_ix2 i⟩
  pointwise [val_main_v19, value8]
  exact product_apply x g w r _

theorem reference_9 : val_main_v21 (F := Ideal) x g w = value9 x g w := by
  funext i
  obtain ⟨r, d, rfl⟩ : ∃ (r : Fin 16384) (d : Fin 128), i = ix2 r d := ⟨_, _, eq_ix2 i⟩
  show _ = gateColumn x g w r d
  unfold gateColumn
  unfold val_main_v21
  by_cases h : d.val < 8
  · rw [dif_pos h]
    refine (pad_apply_of_inside _ _ _ _ _ _ _ _ (ix2 r (⟨d.val, h⟩ : Fin 8)) fun a => ?_).trans ?_
    · match a with
      | ⟨0, _⟩ => show r.val = 0 + r.val * (0 + 1); omega
      | ⟨1, _⟩ => show d.val = 0 + d.val * (0 + 1); omega
    · pointwise [val_main_v20]
      exact product_apply x g w r _
  · rw [dif_neg h]
    refine (pad_apply_of_not_inside _ _ _ _ _ _ _ _ (1 : Fin 2) fun ha => h ?_).trans ?_
    · have h2 : (d.val - 0) / (0 + 1) < 8 := ha.2.2
      rw [Nat.sub_zero, Nat.zero_add, Nat.div_one] at h2
      exact h2
    · exact zero_word

end Reference

theorem frame_kernel : Cert.quiescent_Kernel2 := fun m ρ _ => Cert.Kernel2.Gen.frame m ρ

theorem frame_ideal : Cert.quiescent_Kernel2Ideal := fun m ρ _ => Cert.Kernel2Ideal.Gen.frame m ρ

theorem frame_reference : Cert.quiescent_Reference2Ideal := fun m ρ _ =>
  (θ_run Cert.Reference2Ideal.defs _ _).mono
    (fun r h => ⟨fun c => (h c).2.2.2.2.2.2.2, sem_eq_zero_of_no_sems (by decide) r.2⟩)
    (Cert.Reference2Ideal.Value.run (F := Ideal) m ρ)

theorem preserves : Cert.preserves_Kernel2_Kernel2Ideal := trivial

/-- Kernel and reference end with the same seven projections of the same arguments. -/
theorem algebraic : Cert.algebraic_Kernel2Ideal_Reference2Ideal := by
  intro m g m' g' _ hagree
  refine ⟨_, _, _, _, _, _, _, Cert.Kernel2Ideal.Value.run_blocks (F := Ideal) m g, ?_⟩
  refine (θ_run Cert.Reference2Ideal.defs _ _).mono (fun _ h c => ?_) (Cert.Reference2Ideal.Value.run (F := Ideal) m' g')
  obtain ⟨h0, h1, h2⟩ := hagree c
  obtain ⟨q0, q1, q2, q3, q4, q5, q6, q⟩ := h c
  refine ⟨q0.trans ?_, q1.trans ?_, q2.trans ?_, q3.trans ?_, q4.trans ?_, q5.trans ?_, q6.trans ?_, q⟩
  · rw [Cert.Reference2Ideal.Read.val_main_v14_eq, h0, h1, h2, result_3, reference_3]
  · rw [Cert.Reference2Ideal.Read.val_main_v15_eq, h0, h1, h2, result_4, reference_4]
  · rw [Cert.Reference2Ideal.Read.val_main_v16_eq, h0, h1, h2, result_5, reference_5]
  · rw [Cert.Reference2Ideal.Read.val_main_v17_eq, h0, h1, h2, result_6, reference_6]
  · rw [Cert.Reference2Ideal.Read.val_main_v18_eq, h0, h1, h2, result_7, reference_7]
  · rw [Cert.Reference2Ideal.Read.val_main_v19_eq, h0, h1, h2, result_8, reference_8]
  · rw [Cert.Reference2Ideal.Read.val_main_v21_eq, h0, h1, h2, result_9, reference_9]

end Cert.Proof.InProj
-- ==== Proof.MemRun.lean ====
/- The run of the memory's projections: every buffer of a core ends as the fold over the program's segments leaves it. -/
module

public import proofs.«01_k».proof.Proof.Gen.Kernel3Ideal.Frame

@[expose] public section

set_option maxRecDepth 16384

noncomputable section

namespace Cert.Proof.Memory

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The two stacks end at the last valuation, and the arguments as launched. -/
theorem run : θ_run defs (onTc (τ := τ) (main (F := F))) ⟨m, fun _ => 0, ρ⟩ (fun r => ∀ c : Dev nD,
      r.2.mem ((c.tc : Thread nD τ).loc main_v53) = W9 m ρ c (Proc.devRef .tc main_v53)
      ∧ r.2.mem ((c.tc : Thread nD τ).loc main_v58) = W9 m ρ c (Proc.devRef .tc main_v58)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h hz c =>
      ⟨h c _ (mem_uc main_v53 (by decide)), h c _ (mem_uc main_v58 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c)⟩)

end Cert.Proof.Memory
-- ==== Proof.MemLayer.lean ====
/- Each layer's projection of the memory: 512 rows a grid point, normed, times the keys' and the values' columns. -/
module

public import proofs.«01_k».proof.Proof.Gen.Kernel3Ideal.Frame
public import Idealize.ShloMosaic.Lib.Pipeline.ValueKit

@[expose] public section

set_option maxRecDepth 16384

noncomputable section

namespace Cert.Proof.Memory

open Idealize.ShloMosaic Idealize.ShloMosaic.TcCoe Idealize.SL.Sem
open Cert.Kernel3Ideal Cert.Kernel3Ideal.Gen

/-- A memory row normed, entry by entry. -/
def normed (x : FVec Ideal S2048x1024 .f32) (g : FVec Ideal S1x1024 .f32) (r : Fin 2048) (d : Fin 1024) : EReal :=
  x (ix2 r d) * Ideal.rsqrt (Ideal.div (∑ k, x (ix2 r k) * x (ix2 r k)) (Ideal.ofBits .f32 1149239296#32)
    + Ideal.ofBits .f32 897988541#32) * g (ix2 0 d)

/-- The normed row times one column of the layer's weights. -/
def column (x : FVec Ideal S2048x1024 .f32) (g : FVec Ideal S1x1024 .f32) (w : FVec Ideal S1024x1024 .bf16)
    (r : Fin 2048) (j : Fin 1024) : EReal := ∑ k, normed x g r k * w (ix2 k j)

/-- The keys: the first 512 columns. -/
def keys (x : FVec Ideal S2048x1024 .f32) (g : FVec Ideal S1x1024 .f32) (w : FVec Ideal S1024x1024 .bf16) :
    FVec Ideal S2048x512 .f32 := fun i => column x g w (i 0) ⟨(i 1).val, by have h : (i 1).val < 512 := (i 1).isLt; omega⟩

/-- The values: the last 512 columns. -/
def vals (x : FVec Ideal S2048x1024 .f32) (g : FVec Ideal S1x1024 .f32) (w : FVec Ideal S1024x1024 .bf16) :
    FVec Ideal S2048x512 .f32 :=
  fun i => column x g w (i 0) ⟨512 + (i 1).val, by have h : (i 1).val < 512 := (i 1).isLt; omega⟩

variable (V : (c : Dev nD) → (b : Ref sig .tc) → Buf (Elt Ideal) ((c : Thread nD τ).loc b))

/-! ## Layer 0 -/

namespace L0

/-- The layer's weights, the keys' columns before the values'. -/
abbrev weights (c : Dev nD) : FVec Ideal S1024x1024 .bf16 := V c main_v6
/-- The layer's gain. -/
abbrev gain (c : Dev nD) : FVec Ideal S1x1024 .f32 := V c main_v9
/-- The memory's rows. -/
abbrev rows (c : Dev nD) : FVec Ideal S2048x1024 .f32 := V c main_v0

theorem idx_x : ∀ t : Fin grid0.N, win0_0.index t = ![t.val, 0] := by decide +kernel
theorem idx_w : ∀ t : Fin grid0.N, win0_1.index t = ![0, 0] := by decide +kernel
theorem idx_g : ∀ t : Fin grid0.N, win0_2.index t = ![0, 0] := by decide +kernel
theorem idx_3 : ∀ t : Fin grid0.N, win0_3.index t = ![t.val, 0] := by decide +kernel
theorem idx_4 : ∀ t : Fin grid0.N, win0_4.index t = ![t.val, 0] := by decide +kernel

/-- Row `r` of the block of point `t`. -/
def tok (t : Fin cfg0.N) (r : Fin 512) : Fin 2048 :=
  ⟨512 * t.val + r.val, by have := lt_of_lt_of_eq t.isLt (show cfg0.N = 4 from N_0); omega⟩

theorem x_apply (c : Dev nD) (t : Fin cfg0.N) (r : Fin 512) (d : Fin 1024) :
    (iblk0 V c 0 t : Vec Ideal S512x1024 .f32) (ix2 r d) = rows V c (ix2 (tok t r) d) := by
  blk_point [iblk0, idx_x t, tok, rows]

theorem g_apply (c : Dev nD) (t : Fin cfg0.N) (y : S1x1024.Idx) :
    (iblk0 V c 2 t : Vec Ideal S1x1024 .f32) y = gain V c y := by
  blk_simp [iblk0]
  blk_ext [idx_g t]

theorem w_apply (c : Dev nD) (t : Fin cfg0.N) (y : S1024x1024.Idx) :
    (iblk0 V c 1 t : Vec Ideal S1024x1024 .bf16) y = weights V c y := by
  blk_simp [iblk0]
  blk_ext [idx_w t]

theorem normed_apply (c : Dev nD) (t : Fin cfg0.N) (r : Fin 512) (d : Fin 1024) :
    k0_pay1 (iblk0 V c 0 t) (iblk0 V c 2 t) (ix2 r d) = normed (rows V c) (gain V c) (tok t r) d := by
  pointwise [k0_pay1, normed]
  rw [g_apply]
  simp only [x_apply]

theorem keys_apply (c : Dev nD) (t : Fin cfg0.N) (r : Fin 512) (d : Fin 512) :
    k0_pay2 (iblk0 V c 0 t) (iblk0 V c 2 t) (View.ld (iblk0 V c 1 t) r0_2) (ix2 r d)
      = keys (rows V c) (gain V c) (weights V c) (ix2 (tok t r) d) := by
  pointwise [k0_pay2, keys, column]
  exact Finset.sum_congr rfl fun k _ => congrArg₂ (· * ·) (normed_apply V c t r k) (w_apply V c t _)

theorem vals_apply (c : Dev nD) (t : Fin cfg0.N) (r : Fin 512) (d : Fin 512) :
    k0_pay3 (iblk0 V c 0 t) (iblk0 V c 2 t) (View.ld (iblk0 V c 1 t) r0_4) (ix2 r d)
      = vals (rows V c) (gain V c) (weights V c) (ix2 (tok t r) d) := by
  pointwise [k0_pay3, vals, column]
  exact Finset.sum_congr rfl fun k _ => congrArg₂ (· * ·) (normed_apply V c t r k) (w_apply V c t _)

theorem emb_3 (t : Fin cfg0.N) (r : Fin 512) (d : Fin 512) :
    ((View.whole main_v10_0).slice (win0_3.rect t)).emb (ix2 r d) = ix2 (tok t r) d := by
  have e := idx_3 t
  have e0 : win0_3.index t (0 : Fin 2) = t.val := congrFun e 0
  have e1 : win0_3.index t (1 : Fin 2) = 0 := congrFun e 1
  funext a
  apply Fin.ext
  match a with
  | ⟨0, _⟩ => show win0_3.index t (0 : Fin 2) * 512 + 1 * r.val = 512 * t.val + r.val; omega
  | ⟨1, _⟩ => show win0_3.index t (1 : Fin 2) * 512 + 1 * d.val = d.val; omega

theorem emb_4 (t : Fin cfg0.N) (r : Fin 512) (d : Fin 512) :
    ((View.whole main_v10_1).slice (win0_4.rect t)).emb (ix2 r d) = ix2 (tok t r) d := by
  have e := idx_4 t
  have e0 : win0_4.index t (0 : Fin 2) = t.val := congrFun e 0
  have e1 : win0_4.index t (1 : Fin 2) = 0 := congrFun e 1
  funext a
  apply Fin.ext
  match a with
  | ⟨0, _⟩ => show win0_4.index t (0 : Fin 2) * 512 + 1 * r.val = 512 * t.val + r.val; omega
  | ⟨1, _⟩ => show win0_4.index t (1 : Fin 2) * 512 + 1 * d.val = d.val; omega

theorem keys_eq (c : Dev nD) : (dat0 V c).arrAt 3 cfg0.N = keys (rows V c) (gain V c) (weights V c) := by
  refine (dat0 V c).arrAt_eq_of_covers 3 _ (by decide +kernel) fun t _ y => ?_
  blk_simp
  rw [after0_3]
  frame_out
  obtain ⟨r, d, rfl⟩ : ∃ (r : Fin 512) (d : Fin 512), y = ix2 r d := ⟨_, _, eq_ix2 y⟩
  exact (keys_apply V c t r d).trans (congrArg _ (emb_3 t r d).symm)

theorem vals_eq (c : Dev nD) : (dat0 V c).arrAt 4 cfg0.N = vals (rows V c) (gain V c) (weights V c) := by
  refine (dat0 V c).arrAt_eq_of_covers 4 _ (by decide +kernel) fun t _ y => ?_
  blk_simp
  rw [after0_4]
  frame_out
  obtain ⟨r, d, rfl⟩ : ∃ (r : Fin 512) (d : Fin 512), y = ix2 r d := ⟨_, _, eq_ix2 y⟩
  exact (vals_apply V c t r d).trans (congrArg _ (emb_4 t r d).symm)

end L0

/-! ## Layer 1 -/

namespace L1

/-- The layer's weights, the keys' columns before the values'. -/
abbrev weights (c : Dev nD) : FVec Ideal S1024x1024 .bf16 := V c main_v18
/-- The layer's gain. -/
abbrev gain (c : Dev nD) : FVec Ideal S1x1024 .f32 := V c main_v21
/-- The memory's rows. -/
abbrev rows (c : Dev nD) : FVec Ideal S2048x1024 .f32 := V c main_v0

theorem idx_x : ∀ t : Fin grid1.N, win1_0.index t = ![t.val, 0] := by decide +kernel
theorem idx_w : ∀ t : Fin grid1.N, win1_1.index t = ![0, 0] := by decide +kernel
theorem idx_g : ∀ t : Fin grid1.N, win1_2.index t = ![0, 0] := by decide +kernel
theorem idx_3 : ∀ t : Fin grid1.N, win1_3.index t = ![t.val, 0] := by decide +kernel
theorem idx_4 : ∀ t : Fin grid1.N, win1_4.index t = ![t.val, 0] := by decide +kernel

/-- Row `r` of the block of point `t`. -/
def tok (t : Fin cfg1.N) (r : Fin 512) : Fin 2048 :=
  ⟨512 * t.val + r.val, by have := lt_of_lt_of_eq t.isLt (show cfg1.N = 4 from N_1); omega⟩

theorem x_apply (c : Dev nD) (t : Fin cfg1.N) (r : Fin 512) (d : Fin 1024) :
    (iblk1 V c 0 t : Vec Ideal S512x1024 .f32) (ix2 r d) = rows V c (ix2 (tok t r) d) := by
  blk_point [iblk1, idx_x t, tok, rows]

theorem g_apply (c : Dev nD) (t : Fin cfg1.N) (y : S1x1024.Idx) :
    (iblk1 V c 2 t : Vec Ideal S1x1024 .f32) y = gain V c y := by
  blk_simp [iblk1]
  blk_ext [idx_g t]

theorem w_apply (c : Dev nD) (t : Fin cfg1.N) (y : S1024x1024.Idx) :
    (iblk1 V c 1 t : Vec Ideal S1024x1024 .bf16) y = weights V c y := by
  blk_simp [iblk1]
  blk_ext [idx_w t]

theorem normed_apply (c : Dev nD) (t : Fin cfg1.N) (r : Fin 512) (d : Fin 1024) :
    k1_pay1 (iblk1 V c 0 t) (iblk1 V c 2 t) (ix2 r d) = normed (rows V c) (gain V c) (tok t r) d := by
  pointwise [k1_pay1, normed]
  rw [g_apply]
  simp only [x_apply]

theorem keys_apply (c : Dev nD) (t : Fin cfg1.N) (r : Fin 512) (d : Fin 512) :
    k1_pay2 (iblk1 V c 0 t) (iblk1 V c 2 t) (View.ld (iblk1 V c 1 t) r1_2) (ix2 r d)
      = keys (rows V c) (gain V c) (weights V c) (ix2 (tok t r) d) := by
  pointwise [k1_pay2, keys, column]
  exact Finset.sum_congr rfl fun k _ => congrArg₂ (· * ·) (normed_apply V c t r k) (w_apply V c t _)

theorem vals_apply (c : Dev nD) (t : Fin cfg1.N) (r : Fin 512) (d : Fin 512) :
    k1_pay3 (iblk1 V c 0 t) (iblk1 V c 2 t) (View.ld (iblk1 V c 1 t) r1_4) (ix2 r d)
      = vals (rows V c) (gain V c) (weights V c) (ix2 (tok t r) d) := by
  pointwise [k1_pay3, vals, column]
  exact Finset.sum_congr rfl fun k _ => congrArg₂ (· * ·) (normed_apply V c t r k) (w_apply V c t _)

theorem emb_3 (t : Fin cfg1.N) (r : Fin 512) (d : Fin 512) :
    ((View.whole main_v22_0).slice (win1_3.rect t)).emb (ix2 r d) = ix2 (tok t r) d := by
  have e := idx_3 t
  have e0 : win1_3.index t (0 : Fin 2) = t.val := congrFun e 0
  have e1 : win1_3.index t (1 : Fin 2) = 0 := congrFun e 1
  funext a
  apply Fin.ext
  match a with
  | ⟨0, _⟩ => show win1_3.index t (0 : Fin 2) * 512 + 1 * r.val = 512 * t.val + r.val; omega
  | ⟨1, _⟩ => show win1_3.index t (1 : Fin 2) * 512 + 1 * d.val = d.val; omega

theorem emb_4 (t : Fin cfg1.N) (r : Fin 512) (d : Fin 512) :
    ((View.whole main_v22_1).slice (win1_4.rect t)).emb (ix2 r d) = ix2 (tok t r) d := by
  have e := idx_4 t
  have e0 : win1_4.index t (0 : Fin 2) = t.val := congrFun e 0
  have e1 : win1_4.index t (1 : Fin 2) = 0 := congrFun e 1
  funext a
  apply Fin.ext
  match a with
  | ⟨0, _⟩ => show win1_4.index t (0 : Fin 2) * 512 + 1 * r.val = 512 * t.val + r.val; omega
  | ⟨1, _⟩ => show win1_4.index t (1 : Fin 2) * 512 + 1 * d.val = d.val; omega

theorem keys_eq (c : Dev nD) : (dat1 V c).arrAt 3 cfg1.N = keys (rows V c) (gain V c) (weights V c) := by
  refine (dat1 V c).arrAt_eq_of_covers 3 _ (by decide +kernel) fun t _ y => ?_
  blk_simp
  rw [after1_3]
  frame_out
  obtain ⟨r, d, rfl⟩ : ∃ (r : Fin 512) (d : Fin 512), y = ix2 r d := ⟨_, _, eq_ix2 y⟩
  exact (keys_apply V c t r d).trans (congrArg _ (emb_3 t r d).symm)

theorem vals_eq (c : Dev nD) : (dat1 V c).arrAt 4 cfg1.N = vals (rows V c) (gain V c) (weights V c) := by
  refine (dat1 V c).arrAt_eq_of_covers 4 _ (by decide +kernel) fun t _ y => ?_
  blk_simp
  rw [after1_4]
  frame_out
  obtain ⟨r, d, rfl⟩ : ∃ (r : Fin 512) (d : Fin 512), y = ix2 r d := ⟨_, _, eq_ix2 y⟩
  exact (vals_apply V c t r d).trans (congrArg _ (emb_4 t r d).symm)

end L1

/-! ## Layer 2 -/

namespace L2

/-- The layer's weights, the keys' columns before the values'. -/
abbrev weights (c : Dev nD) : FVec Ideal S1024x1024 .bf16 := V c main_v30
/-- The layer's gain. -/
abbrev gain (c : Dev nD) : FVec Ideal S1x1024 .f32 := V c main_v33
/-- The memory's rows. -/
abbrev rows (c : Dev nD) : FVec Ideal S2048x1024 .f32 := V c main_v0

theorem idx_x : ∀ t : Fin grid2.N, win2_0.index t = ![t.val, 0] := by decide +kernel
theorem idx_w : ∀ t : Fin grid2.N, win2_1.index t = ![0, 0] := by decide +kernel
theorem idx_g : ∀ t : Fin grid2.N, win2_2.index t = ![0, 0] := by decide +kernel
theorem idx_3 : ∀ t : Fin grid2.N, win2_3.index t = ![t.val, 0] := by decide +kernel
theorem idx_4 : ∀ t : Fin grid2.N, win2_4.index t = ![t.val, 0] := by decide +kernel

/-- Row `r` of the block of point `t`. -/
def tok (t : Fin cfg2.N) (r : Fin 512) : Fin 2048 :=
  ⟨512 * t.val + r.val, by have := lt_of_lt_of_eq t.isLt (show cfg2.N = 4 from N_2); omega⟩

theorem x_apply (c : Dev nD) (t : Fin cfg2.N) (r : Fin 512) (d : Fin 1024) :
    (iblk2 V c 0 t : Vec Ideal S512x1024 .f32) (ix2 r d) = rows V c (ix2 (tok t r) d) := by
  blk_point [iblk2, idx_x t, tok, rows]

theorem g_apply (c : Dev nD) (t : Fin cfg2.N) (y : S1x1024.Idx) :
    (iblk2 V c 2 t : Vec Ideal S1x1024 .f32) y = gain V c y := by
  blk_simp [iblk2]
  blk_ext [idx_g t]

theorem w_apply (c : Dev nD) (t : Fin cfg2.N) (y : S1024x1024.Idx) :
    (iblk2 V c 1 t : Vec Ideal S1024x1024 .bf16) y = weights V c y := by
  blk_simp [iblk2]
  blk_ext [idx_w t]

theorem normed_apply (c : Dev nD) (t : Fin cfg2.N) (r : Fin 512) (d : Fin 1024) :
    k2_pay1 (iblk2 V c 0 t) (iblk2 V c 2 t) (ix2 r d) = normed (rows V c) (gain V c) (tok t r) d := by
  pointwise [k2_pay1, normed]
  rw [g_apply]
  simp only [x_apply]

theorem keys_apply (c : Dev nD) (t : Fin cfg2.N) (r : Fin 512) (d : Fin 512) :
    k2_pay2 (iblk2 V c 0 t) (iblk2 V c 2 t) (View.ld (iblk2 V c 1 t) r2_2) (ix2 r d)
      = keys (rows V c) (gain V c) (weights V c) (ix2 (tok t r) d) := by
  pointwise [k2_pay2, keys, column]
  exact Finset.sum_congr rfl fun k _ => congrArg₂ (· * ·) (normed_apply V c t r k) (w_apply V c t _)

theorem vals_apply (c : Dev nD) (t : Fin cfg2.N) (r : Fin 512) (d : Fin 512) :
    k2_pay3 (iblk2 V c 0 t) (iblk2 V c 2 t) (View.ld (iblk2 V c 1 t) r2_4) (ix2 r d)
      = vals (rows V c) (gain V c) (weights V c) (ix2 (tok t r) d) := by
  pointwise [k2_pay3, vals, column]
  exact Finset.sum_congr rfl fun k _ => congrArg₂ (· * ·) (normed_apply V c t r k) (w_apply V c t _)

theorem emb_3 (t : Fin cfg2.N) (r : Fin 512) (d : Fin 512) :
    ((View.whole main_v34_0).slice (win2_3.rect t)).emb (ix2 r d) = ix2 (tok t r) d := by
  have e := idx_3 t
  have e0 : win2_3.index t (0 : Fin 2) = t.val := congrFun e 0
  have e1 : win2_3.index t (1 : Fin 2) = 0 := congrFun e 1
  funext a
  apply Fin.ext
  match a with
  | ⟨0, _⟩ => show win2_3.index t (0 : Fin 2) * 512 + 1 * r.val = 512 * t.val + r.val; omega
  | ⟨1, _⟩ => show win2_3.index t (1 : Fin 2) * 512 + 1 * d.val = d.val; omega

theorem emb_4 (t : Fin cfg2.N) (r : Fin 512) (d : Fin 512) :
    ((View.whole main_v34_1).slice (win2_4.rect t)).emb (ix2 r d) = ix2 (tok t r) d := by
  have e := idx_4 t
  have e0 : win2_4.index t (0 : Fin 2) = t.val := congrFun e 0
  have e1 : win2_4.index t (1 : Fin 2) = 0 := congrFun e 1
  funext a
  apply Fin.ext
  match a with
  | ⟨0, _⟩ => show win2_4.index t (0 : Fin 2) * 512 + 1 * r.val = 512 * t.val + r.val; omega
  | ⟨1, _⟩ => show win2_4.index t (1 : Fin 2) * 512 + 1 * d.val = d.val; omega

theorem keys_eq (c : Dev nD) : (dat2 V c).arrAt 3 cfg2.N = keys (rows V c) (gain V c) (weights V c) := by
  refine (dat2 V c).arrAt_eq_of_covers 3 _ (by decide +kernel) fun t _ y => ?_
  blk_simp
  rw [after2_3]
  frame_out
  obtain ⟨r, d, rfl⟩ : ∃ (r : Fin 512) (d : Fin 512), y = ix2 r d := ⟨_, _, eq_ix2 y⟩
  exact (keys_apply V c t r d).trans (congrArg _ (emb_3 t r d).symm)

theorem vals_eq (c : Dev nD) : (dat2 V c).arrAt 4 cfg2.N = vals (rows V c) (gain V c) (weights V c) := by
  refine (dat2 V c).arrAt_eq_of_covers 4 _ (by decide +kernel) fun t _ y => ?_
  blk_simp
  rw [after2_4]
  frame_out
  obtain ⟨r, d, rfl⟩ : ∃ (r : Fin 512) (d : Fin 512), y = ix2 r d := ⟨_, _, eq_ix2 y⟩
  exact (vals_apply V c t r d).trans (congrArg _ (emb_4 t r d).symm)

end L2

/-! ## Layer 3 -/

namespace L3

/-- The layer's weights, the keys' columns before the values'. -/
abbrev weights (c : Dev nD) : FVec Ideal S1024x1024 .bf16 := V c main_v42
/-- The layer's gain. -/
abbrev gain (c : Dev nD) : FVec Ideal S1x1024 .f32 := V c main_v45
/-- The memory's rows. -/
abbrev rows (c : Dev nD) : FVec Ideal S2048x1024 .f32 := V c main_v0

theorem idx_x : ∀ t : Fin grid3.N, win3_0.index t = ![t.val, 0] := by decide +kernel
theorem idx_w : ∀ t : Fin grid3.N, win3_1.index t = ![0, 0] := by decide +kernel
theorem idx_g : ∀ t : Fin grid3.N, win3_2.index t = ![0, 0] := by decide +kernel
theorem idx_3 : ∀ t : Fin grid3.N, win3_3.index t = ![t.val, 0] := by decide +kernel
theorem idx_4 : ∀ t : Fin grid3.N, win3_4.index t = ![t.val, 0] := by decide +kernel

/-- Row `r` of the block of point `t`. -/
def tok (t : Fin cfg3.N) (r : Fin 512) : Fin 2048 :=
  ⟨512 * t.val + r.val, by have := lt_of_lt_of_eq t.isLt (show cfg3.N = 4 from N_3); omega⟩

theorem x_apply (c : Dev nD) (t : Fin cfg3.N) (r : Fin 512) (d : Fin 1024) :
    (iblk3 V c 0 t : Vec Ideal S512x1024 .f32) (ix2 r d) = rows V c (ix2 (tok t r) d) := by
  blk_point [iblk3, idx_x t, tok, rows]

theorem g_apply (c : Dev nD) (t : Fin cfg3.N) (y : S1x1024.Idx) :
    (iblk3 V c 2 t : Vec Ideal S1x1024 .f32) y = gain V c y := by
  blk_simp [iblk3]
  blk_ext [idx_g t]

theorem w_apply (c : Dev nD) (t : Fin cfg3.N) (y : S1024x1024.Idx) :
    (iblk3 V c 1 t : Vec Ideal S1024x1024 .bf16) y = weights V c y := by
  blk_simp [iblk3]
  blk_ext [idx_w t]

theorem normed_apply (c : Dev nD) (t : Fin cfg3.N) (r : Fin 512) (d : Fin 1024) :
    k3_pay1 (iblk3 V c 0 t) (iblk3 V c 2 t) (ix2 r d) = normed (rows V c) (gain V c) (tok t r) d := by
  pointwise [k3_pay1, normed]
  rw [g_apply]
  simp only [x_apply]

theorem keys_apply (c : Dev nD) (t : Fin cfg3.N) (r : Fin 512) (d : Fin 512) :
    k3_pay2 (iblk3 V c 0 t) (iblk3 V c 2 t) (View.ld (iblk3 V c 1 t) r3_2) (ix2 r d)
      = keys (rows V c) (gain V c) (weights V c) (ix2 (tok t r) d) := by
  pointwise [k3_pay2, keys, column]
  exact Finset.sum_congr rfl fun k _ => congrArg₂ (· * ·) (normed_apply V c t r k) (w_apply V c t _)

theorem vals_apply (c : Dev nD) (t : Fin cfg3.N) (r : Fin 512) (d : Fin 512) :
    k3_pay3 (iblk3 V c 0 t) (iblk3 V c 2 t) (View.ld (iblk3 V c 1 t) r3_4) (ix2 r d)
      = vals (rows V c) (gain V c) (weights V c) (ix2 (tok t r) d) := by
  pointwise [k3_pay3, vals, column]
  exact Finset.sum_congr rfl fun k _ => congrArg₂ (· * ·) (normed_apply V c t r k) (w_apply V c t _)

theorem emb_3 (t : Fin cfg3.N) (r : Fin 512) (d : Fin 512) :
    ((View.whole main_v46_0).slice (win3_3.rect t)).emb (ix2 r d) = ix2 (tok t r) d := by
  have e := idx_3 t
  have e0 : win3_3.index t (0 : Fin 2) = t.val := congrFun e 0
  have e1 : win3_3.index t (1 : Fin 2) = 0 := congrFun e 1
  funext a
  apply Fin.ext
  match a with
  | ⟨0, _⟩ => show win3_3.index t (0 : Fin 2) * 512 + 1 * r.val = 512 * t.val + r.val; omega
  | ⟨1, _⟩ => show win3_3.index t (1 : Fin 2) * 512 + 1 * d.val = d.val; omega

theorem emb_4 (t : Fin cfg3.N) (r : Fin 512) (d : Fin 512) :
    ((View.whole main_v46_1).slice (win3_4.rect t)).emb (ix2 r d) = ix2 (tok t r) d := by
  have e := idx_4 t
  have e0 : win3_4.index t (0 : Fin 2) = t.val := congrFun e 0
  have e1 : win3_4.index t (1 : Fin 2) = 0 := congrFun e 1
  funext a
  apply Fin.ext
  match a with
  | ⟨0, _⟩ => show win3_4.index t (0 : Fin 2) * 512 + 1 * r.val = 512 * t.val + r.val; omega
  | ⟨1, _⟩ => show win3_4.index t (1 : Fin 2) * 512 + 1 * d.val = d.val; omega

theorem keys_eq (c : Dev nD) : (dat3 V c).arrAt 3 cfg3.N = keys (rows V c) (gain V c) (weights V c) := by
  refine (dat3 V c).arrAt_eq_of_covers 3 _ (by decide +kernel) fun t _ y => ?_
  blk_simp
  rw [after3_3]
  frame_out
  obtain ⟨r, d, rfl⟩ : ∃ (r : Fin 512) (d : Fin 512), y = ix2 r d := ⟨_, _, eq_ix2 y⟩
  exact (keys_apply V c t r d).trans (congrArg _ (emb_3 t r d).symm)

theorem vals_eq (c : Dev nD) : (dat3 V c).arrAt 4 cfg3.N = vals (rows V c) (gain V c) (weights V c) := by
  refine (dat3 V c).arrAt_eq_of_covers 4 _ (by decide +kernel) fun t _ y => ?_
  blk_simp
  rw [after3_4]
  frame_out
  obtain ⟨r, d, rfl⟩ : ∃ (r : Fin 512) (d : Fin 512), y = ix2 r d := ⟨_, _, eq_ix2 y⟩
  exact (vals_apply V c t r d).trans (congrArg _ (emb_4 t r d).symm)

end L3

end Cert.Proof.Memory
-- ==== Proof.Memory.lean ====
/- The memory's keys and values of every layer: the stacks the program leaves, the reference's, and their equality. -/
module

public import proofs.«01_k».proof.Defs
public import proofs.«01_k».proof.Proof.MemRun
public import proofs.«01_k».proof.Proof.MemLayer
public import proofs.«01_k».proof.Proof.Gen.Kernel3.Frame
public import proofs.«01_k».proof.Proof.Gen.Reference3Ideal
public import Idealize.ShloMosaic.Lib.StableHlo.Run
public import Idealize.ShloMosaic.Lib.StableHlo.RunRead
public import Idealize.ShloMosaic.Lib.Pipeline.ValueKit
public import Idealize.ShloMosaic.Lib.KernelVsHost
public import Idealize.ShloMosaic.Lib.Claim

@[expose] public section

set_option maxRecDepth 16384

noncomputable section

namespace Cert.Proof.Memory

open Idealize.ShloMosaic Idealize.ShloMosaic.TcCoe Idealize.SL.Sem

section Kernel

open Cert.Kernel3Ideal Cert.Kernel3Ideal.Gen

/-- A memory entry normed with a layer's gain. -/
def entry (x : FVec Ideal S8x256x1024 .f32) (g : FVec Ideal S4x1024 .f32) (l : Fin 4) (b : Fin 8) (n : Fin 256)
    (d : Fin 1024) : EReal :=
  x (ix3 b n d) * Ideal.rsqrt (Ideal.div (∑ k, x (ix3 b n k) * x (ix3 b n k)) (Ideal.ofBits .f32 1149239296#32)
    + Ideal.ofBits .f32 897988541#32) * g (ix2 l d)

/-- The layers' projections, a head's 128 columns together. -/
def project (x : FVec Ideal S8x256x1024 .f32) (g : FVec Ideal S4x1024 .f32) (w : FVec Ideal S4x1024x512 .f32) :
    FVec Ideal S4x8x256x4x128 .f32 :=
  fun i => ∑ k, entry x g (i 0) (i 1) (i 2) k * w (ix3 (i 0) k ⟨(i 3).val * 128 + (i 4).val, by
    have h : (i 3).val < 4 := (i 3).isLt
    have h' : (i 4).val < 128 := (i 4).isLt
    omega⟩)

/-- The memory's rows, one under another. -/
def flat (x : FVec Ideal S8x256x1024 .f32) : FVec Ideal S2048x1024 .f32 :=
  shapeCast S2048x1024 x shapeCasts_S8x256x1024_S2048x1024
/-- A layer's projection, its columns as heads. -/
def heads (y : FVec Ideal S2048x512 .f32) : FVec Ideal S8x256x4x128 .f32 :=
  shapeCast S8x256x4x128 y shapeCasts_S2048x512_S8x256x4x128
/-- Four layers' projections, stacked. -/
def stack (y0 y1 y2 y3 : FVec Ideal S8x256x4x128 .f32) : FVec Ideal S4x8x256x4x128 .f32 :=
  concatenate S4x8x256x4x128 0
    [⟨S1x8x256x4x128, broadcastInDim S1x8x256x4x128 ![1, 2, 3, 4] bcast_S8x256x4x128_S1x8x256x4x128_1_2_3_4 y0⟩,
     ⟨S1x8x256x4x128, broadcastInDim S1x8x256x4x128 ![1, 2, 3, 4] bcast_S8x256x4x128_S1x8x256x4x128_1_2_3_4 y1⟩,
     ⟨S1x8x256x4x128, broadcastInDim S1x8x256x4x128 ![1, 2, 3, 4] bcast_S8x256x4x128_S1x8x256x4x128_1_2_3_4 y2⟩,
     ⟨S1x8x256x4x128, broadcastInDim S1x8x256x4x128 ![1, 2, 3, 4] bcast_S8x256x4x128_S1x8x256x4x128_1_2_3_4 y3⟩]
    concatenates_S1x8x256x4x128_S1x8x256x4x128_S1x8x256x4x128_S1x8x256x4x128_S4x8x256x4x128_d0

/-- One matrix of a layer, cut out of the layers'. -/
def cut0 (w : FVec Ideal S4x1024x512 .f32) : FVec Ideal S1024x512 .f32 :=
  shapeCast S1024x512 (extractStridedSlice S1x1024x512 ![0, 0, 0] w slices_S4x1024x512_S1x1024x512_0_0_0) shapeCasts_S1x1024x512_S1024x512
def gain0 (g : FVec Ideal S4x1024 .f32) : FVec Ideal S1x1024 .f32 :=
  shapeCast S1x1024 (shapeCast S1024 (extractStridedSlice S1x1024 ![0, 0] g slices_S4x1024_S1x1024_0_0) shapeCasts_S1x1024_S1024) shapeCasts_S1024_S1x1024
def cut1 (w : FVec Ideal S4x1024x512 .f32) : FVec Ideal S1024x512 .f32 :=
  shapeCast S1024x512 (extractStridedSlice S1x1024x512 ![1, 0, 0] w slices_S4x1024x512_S1x1024x512_1_0_0) shapeCasts_S1x1024x512_S1024x512
def gain1 (g : FVec Ideal S4x1024 .f32) : FVec Ideal S1x1024 .f32 :=
  shapeCast S1x1024 (shapeCast S1024 (extractStridedSlice S1x1024 ![1, 0] g slices_S4x1024_S1x1024_1_0) shapeCasts_S1x1024_S1024) shapeCasts_S1024_S1x1024
def cut2 (w : FVec Ideal S4x1024x512 .f32) : FVec Ideal S1024x512 .f32 :=
  shapeCast S1024x512 (extractStridedSlice S1x1024x512 ![2, 0, 0] w slices_S4x1024x512_S1x1024x512_2_0_0) shapeCasts_S1x1024x512_S1024x512
def gain2 (g : FVec Ideal S4x1024 .f32) : FVec Ideal S1x1024 .f32 :=
  shapeCast S1x1024 (shapeCast S1024 (extractStridedSlice S1x1024 ![2, 0] g slices_S4x1024_S1x1024_2_0) shapeCasts_S1x1024_S1024) shapeCasts_S1024_S1x1024
def cut3 (w : FVec Ideal S4x1024x512 .f32) : FVec Ideal S1024x512 .f32 :=
  shapeCast S1024x512 (extractStridedSlice S1x1024x512 ![3, 0, 0] w slices_S4x1024x512_S1x1024x512_3_0_0) shapeCasts_S1x1024x512_S1024x512
def gain3 (g : FVec Ideal S4x1024 .f32) : FVec Ideal S1x1024 .f32 :=
  shapeCast S1x1024 (shapeCast S1024 (extractStridedSlice S1x1024 ![3, 0] g slices_S4x1024_S1x1024_3_0) shapeCasts_S1x1024_S1024) shapeCasts_S1024_S1x1024

/-- The keys' and the values' matrices side by side. -/
def both (a b : FVec Ideal S1024x512 .f32) : FVec Ideal S1024x1024 .bf16 :=
  truncf .bf16 (concatenate S1024x1024 1 [⟨S1024x512, a⟩, ⟨S1024x512, b⟩] concatenates_S1024x512_S1024x512_S1024x1024_d1) bitsLt_bf16_f32

theorem flat_apply (x : FVec Ideal S8x256x1024 .f32) (b : Fin 8) (n : Fin 256) (d : Fin 1024) :
    flat x (ix2 (⟨b.val * 256 + n.val, by omega⟩ : Fin 2048) d) = x (ix3 b n d) := by
  pointwise [flat]

theorem heads_apply (y : FVec Ideal S2048x512 .f32) (b : Fin 8) (n : Fin 256) (h : Fin 4) (e : Fin 128) :
    heads y (ix4 b n h e) = y (ix2 (⟨b.val * 256 + n.val, by omega⟩ : Fin 2048) (⟨h.val * 128 + e.val, by omega⟩ : Fin 512)) := by
  pointwise [heads]

theorem both_left (a b : FVec Ideal S1024x512 .f32) (k : Fin 1024) (j : Fin 512) :
    both a b (ix2 k (⟨j.val, by omega⟩ : Fin 1024)) = a (ix2 k j) := by
  pointwise [both]

theorem both_right (a b : FVec Ideal S1024x512 .f32) (k : Fin 1024) (j : Fin 512) :
    both a b (ix2 k (⟨512 + j.val, by omega⟩ : Fin 1024)) = b (ix2 k j) := by
  pointwise [both]

theorem cut0_apply (w : FVec Ideal S4x1024x512 .f32) (k : Fin 1024) (j : Fin 512) : cut0 w (ix2 k j) = w (ix3 0 k j) := by
  pointwise [cut0]
theorem gain0_apply (g : FVec Ideal S4x1024 .f32) (d : Fin 1024) : gain0 g (ix2 0 d) = g (ix2 0 d) := by
  pointwise [gain0]
theorem stack0_apply (y0 y1 y2 y3 : FVec Ideal S8x256x4x128 .f32) (b : Fin 8) (n : Fin 256) (h : Fin 4) (e : Fin 128) :
    stack y0 y1 y2 y3 (ix5 0 b n h e) = y0 (ix4 b n h e) := by
  pointwise [stack]

theorem cut1_apply (w : FVec Ideal S4x1024x512 .f32) (k : Fin 1024) (j : Fin 512) : cut1 w (ix2 k j) = w (ix3 1 k j) := by
  pointwise [cut1]
theorem gain1_apply (g : FVec Ideal S4x1024 .f32) (d : Fin 1024) : gain1 g (ix2 0 d) = g (ix2 1 d) := by
  pointwise [gain1]
theorem stack1_apply (y0 y1 y2 y3 : FVec Ideal S8x256x4x128 .f32) (b : Fin 8) (n : Fin 256) (h : Fin 4) (e : Fin 128) :
    stack y0 y1 y2 y3 (ix5 1 b n h e) = y1 (ix4 b n h e) := by
  pointwise [stack]

theorem cut2_apply (w : FVec Ideal S4x1024x512 .f32) (k : Fin 1024) (j : Fin 512) : cut2 w (ix2 k j) = w (ix3 2 k j) := by
  pointwise [cut2]
theorem gain2_apply (g : FVec Ideal S4x1024 .f32) (d : Fin 1024) : gain2 g (ix2 0 d) = g (ix2 2 d) := by
  pointwise [gain2]
theorem stack2_apply (y0 y1 y2 y3 : FVec Ideal S8x256x4x128 .f32) (b : Fin 8) (n : Fin 256) (h : Fin 4) (e : Fin 128) :
    stack y0 y1 y2 y3 (ix5 2 b n h e) = y2 (ix4 b n h e) := by
  pointwise [stack]

theorem cut3_apply (w : FVec Ideal S4x1024x512 .f32) (k : Fin 1024) (j : Fin 512) : cut3 w (ix2 k j) = w (ix3 3 k j) := by
  pointwise [cut3]
theorem gain3_apply (g : FVec Ideal S4x1024 .f32) (d : Fin 1024) : gain3 g (ix2 0 d) = g (ix2 3 d) := by
  pointwise [gain3]
theorem stack3_apply (y0 y1 y2 y3 : FVec Ideal S8x256x4x128 .f32) (b : Fin 8) (n : Fin 256) (h : Fin 4) (e : Fin 128) :
    stack y0 y1 y2 y3 (ix5 3 b n h e) = y3 (ix4 b n h e) := by
  pointwise [stack]

/-- A layer's keys, a head's columns together, from its gain and matrices. -/
theorem keys_value (x : FVec Ideal S8x256x1024 .f32) (g : FVec Ideal S4x1024 .f32) (wk : FVec Ideal S4x1024x512 .f32)
    (G : FVec Ideal S1x1024 .f32) (A B : FVec Ideal S1024x512 .f32) (l : Fin 4)
    (hG : ∀ d, G (ix2 0 d) = g (ix2 l d)) (hA : ∀ k j, A (ix2 k j) = wk (ix3 l k j))
    (b : Fin 8) (n : Fin 256) (h : Fin 4) (e : Fin 128) :
    heads (keys (flat x) G (both A B)) (ix4 b n h e) = project x g wk (ix5 l b n h e) := by
  rw [heads_apply]
  show ∑ k, normed (flat x) G (⟨b.val * 256 + n.val, by omega⟩ : Fin 2048) k
      * both A B (ix2 k (⟨h.val * 128 + e.val, by omega⟩ : Fin 1024))
    = ∑ k, entry x g l b n k * wk (ix3 l k (⟨h.val * 128 + e.val, by omega⟩ : Fin 512))
  refine Finset.sum_congr rfl fun k _ => congrArg₂ (· * ·) ?_ ((both_left A B k ⟨h.val * 128 + e.val, by omega⟩).trans (hA k _))
  unfold normed entry
  simp only [flat_apply, hG]

/-- A layer's values, likewise. -/
theorem vals_value (x : FVec Ideal S8x256x1024 .f32) (g : FVec Ideal S4x1024 .f32) (wv : FVec Ideal S4x1024x512 .f32)
    (G : FVec Ideal S1x1024 .f32) (A B : FVec Ideal S1024x512 .f32) (l : Fin 4)
    (hG : ∀ d, G (ix2 0 d) = g (ix2 l d)) (hB : ∀ k j, B (ix2 k j) = wv (ix3 l k j))
    (b : Fin 8) (n : Fin 256) (h : Fin 4) (e : Fin 128) :
    heads (vals (flat x) G (both A B)) (ix4 b n h e) = project x g wv (ix5 l b n h e) := by
  rw [heads_apply]
  show ∑ k, normed (flat x) G (⟨b.val * 256 + n.val, by omega⟩ : Fin 2048) k
      * both A B (ix2 k (⟨512 + (h.val * 128 + e.val), by omega⟩ : Fin 1024))
    = ∑ k, entry x g l b n k * wv (ix3 l k (⟨h.val * 128 + e.val, by omega⟩ : Fin 512))
  refine Finset.sum_congr rfl fun k _ => congrArg₂ (· * ·) ?_ ((both_right A B k ⟨h.val * 128 + e.val, by omega⟩).trans (hB k _))
  unfold normed entry
  simp only [flat_apply, hG]

theorem keys_stack (x : FVec Ideal S8x256x1024 .f32) (g : FVec Ideal S4x1024 .f32) (wk wv : FVec Ideal S4x1024x512 .f32) :
    stack (heads (keys (flat x) (gain0 g) (both (cut0 wk) (cut0 wv))))
      (heads (keys (flat x) (gain1 g) (both (cut1 wk) (cut1 wv))))
      (heads (keys (flat x) (gain2 g) (both (cut2 wk) (cut2 wv))))
      (heads (keys (flat x) (gain3 g) (both (cut3 wk) (cut3 wv)))) = project x g wk := by
  funext i
  obtain ⟨l, b, n, h, e, rfl⟩ : ∃ (l : Fin 4) (b : Fin 8) (n : Fin 256) (h : Fin 4) (e : Fin 128), i = ix5 l b n h e :=
    ⟨_, _, _, _, _, eq_ix5 i⟩
  match l with
  | ⟨0, _⟩ => exact (stack0_apply ..).trans (keys_value x g wk _ _ _ 0 (gain0_apply g) (cut0_apply wk) b n h e)
  | ⟨1, _⟩ => exact (stack1_apply ..).trans (keys_value x g wk _ _ _ 1 (gain1_apply g) (cut1_apply wk) b n h e)
  | ⟨2, _⟩ => exact (stack2_apply ..).trans (keys_value x g wk _ _ _ 2 (gain2_apply g) (cut2_apply wk) b n h e)
  | ⟨3, _⟩ => exact (stack3_apply ..).trans (keys_value x g wk _ _ _ 3 (gain3_apply g) (cut3_apply wk) b n h e)

theorem vals_stack (x : FVec Ideal S8x256x1024 .f32) (g : FVec Ideal S4x1024 .f32) (wk wv : FVec Ideal S4x1024x512 .f32) :
    stack (heads (vals (flat x) (gain0 g) (both (cut0 wk) (cut0 wv))))
      (heads (vals (flat x) (gain1 g) (both (cut1 wk) (cut1 wv))))
      (heads (vals (flat x) (gain2 g) (both (cut2 wk) (cut2 wv))))
      (heads (vals (flat x) (gain3 g) (both (cut3 wk) (cut3 wv)))) = project x g wv := by
  funext i
  obtain ⟨l, b, n, h, e, rfl⟩ : ∃ (l : Fin 4) (b : Fin 8) (n : Fin 256) (h : Fin 4) (e : Fin 128), i = ix5 l b n h e :=
    ⟨_, _, _, _, _, eq_ix5 i⟩
  match l with
  | ⟨0, _⟩ => exact (stack0_apply ..).trans (vals_value x g wv _ _ _ 0 (gain0_apply g) (cut0_apply wv) b n h e)
  | ⟨1, _⟩ => exact (stack1_apply ..).trans (vals_value x g wv _ _ _ 1 (gain1_apply g) (cut1_apply wv) b n h e)
  | ⟨2, _⟩ => exact (stack2_apply ..).trans (vals_value x g wv _ _ _ 2 (gain2_apply g) (cut2_apply wv) b n h e)
  | ⟨3, _⟩ => exact (stack3_apply ..).trans (vals_value x g wv _ _ _ 3 (gain3_apply g) (cut3_apply wv) b n h e)

variable (m : (ℓ : Loc nD τ sig) → Buf (Elt Ideal) ℓ) (ρ : Dev nD → PrngReg)

/-- The memory. -/
abbrev argX (c : Dev nD) : FVec Ideal S8x256x1024 .f32 := m (c, Proc.tc.devRef main_arg0)
/-- The layers' gains. -/
abbrev argG (c : Dev nD) : FVec Ideal S4x1024 .f32 := m (c, Proc.tc.devRef main_arg1)
/-- The layers' matrices of the keys. -/
abbrev argK (c : Dev nD) : FVec Ideal S4x1024x512 .f32 := m (c, Proc.tc.devRef main_arg2)
/-- The layers' matrices of the values. -/
abbrev argV (c : Dev nD) : FVec Ideal S4x1024x512 .f32 := m (c, Proc.tc.devRef main_arg3)

section Lines

variable (X : Valuation τ sig (Elt Ideal))

theorem line0_gain : StableHlo.after hostOps0 X (Proc.devRef .tc main_v9) = gain0 (X (Proc.devRef .tc main_arg1)) := by
  after_reads_simp
  rfl
theorem line0_weights : StableHlo.after hostOps0 X (Proc.devRef .tc main_v6)
    = both (cut0 (X (Proc.devRef .tc main_arg2))) (cut0 (X (Proc.devRef .tc main_arg3))) := by
  after_reads_simp
  rfl

theorem line1_gain : StableHlo.after hostOps1 X (Proc.devRef .tc main_v21) = gain1 (X (Proc.devRef .tc main_arg1)) := by
  after_reads_simp
  rfl
theorem line1_weights : StableHlo.after hostOps1 X (Proc.devRef .tc main_v18)
    = both (cut1 (X (Proc.devRef .tc main_arg2))) (cut1 (X (Proc.devRef .tc main_arg3))) := by
  after_reads_simp
  rfl

theorem line2_gain : StableHlo.after hostOps2 X (Proc.devRef .tc main_v33) = gain2 (X (Proc.devRef .tc main_arg1)) := by
  after_reads_simp
  rfl
theorem line2_weights : StableHlo.after hostOps2 X (Proc.devRef .tc main_v30)
    = both (cut2 (X (Proc.devRef .tc main_arg2))) (cut2 (X (Proc.devRef .tc main_arg3))) := by
  after_reads_simp
  rfl

theorem line3_gain : StableHlo.after hostOps3 X (Proc.devRef .tc main_v45) = gain3 (X (Proc.devRef .tc main_arg1)) := by
  after_reads_simp
  rfl
theorem line3_weights : StableHlo.after hostOps3 X (Proc.devRef .tc main_v42)
    = both (cut3 (X (Proc.devRef .tc main_arg2))) (cut3 (X (Proc.devRef .tc main_arg3))) := by
  after_reads_simp
  rfl

theorem line0_rows : StableHlo.after hostOps0 X (Proc.devRef .tc main_v0) = flat (X (Proc.devRef .tc main_arg0)) := by
  after_reads_simp
  rfl
theorem line1_out0 : StableHlo.after hostOps1 X (Proc.devRef .tc main_v11) = heads (X (Proc.devRef .tc main_v10_0)) := by
  after_reads_simp
  rfl
theorem line1_out1 : StableHlo.after hostOps1 X (Proc.devRef .tc main_v12) = heads (X (Proc.devRef .tc main_v10_1)) := by
  after_reads_simp
  rfl
theorem line2_out0 : StableHlo.after hostOps2 X (Proc.devRef .tc main_v23) = heads (X (Proc.devRef .tc main_v22_0)) := by
  after_reads_simp
  rfl
theorem line2_out1 : StableHlo.after hostOps2 X (Proc.devRef .tc main_v24) = heads (X (Proc.devRef .tc main_v22_1)) := by
  after_reads_simp
  rfl
theorem line3_out0 : StableHlo.after hostOps3 X (Proc.devRef .tc main_v35) = heads (X (Proc.devRef .tc main_v34_0)) := by
  after_reads_simp
  rfl
theorem line3_out1 : StableHlo.after hostOps3 X (Proc.devRef .tc main_v36) = heads (X (Proc.devRef .tc main_v34_1)) := by
  after_reads_simp
  rfl
theorem line4_keys : StableHlo.after hostOps4 X (Proc.devRef .tc main_v53)
    = stack (X (Proc.devRef .tc main_v11)) (X (Proc.devRef .tc main_v23)) (X (Proc.devRef .tc main_v35)) (heads (X (Proc.devRef .tc main_v46_0))) := by
  after_reads_simp
  rfl
theorem line4_values : StableHlo.after hostOps4 X (Proc.devRef .tc main_v58)
    = stack (X (Proc.devRef .tc main_v12)) (X (Proc.devRef .tc main_v24)) (X (Proc.devRef .tc main_v36)) (heads (X (Proc.devRef .tc main_v46_1))) := by
  after_reads_simp
  rfl

end Lines

theorem rows0 (c : Dev nD) : L0.rows (V1 m ρ) c = flat (argX m c) :=
  (line0_rows (W0 m ρ c))
theorem gains0 (c : Dev nD) : L0.gain (V1 m ρ) c = gain0 (argG m c) :=
  (line0_gain (W0 m ρ c)).trans (congrArg gain0 (W0_args m ρ c main_arg1 (by decide)))
theorem matrices0 (c : Dev nD) : L0.weights (V1 m ρ) c = both (cut0 (argK m c)) (cut0 (argV m c)) :=
  (line0_weights (W0 m ρ c)).trans
    (congrArg₂ (fun u v => both (cut0 u) (cut0 v)) (W0_args m ρ c main_arg2 (by decide)) (W0_args m ρ c main_arg3 (by decide)))
theorem exit0_keys (c : Dev nD) : W2 m ρ c (Proc.devRef .tc main_v10_0)
    = keys (flat (argX m c)) (gain0 (argG m c)) (both (cut0 (argK m c)) (cut0 (argV m c))) := by
  refine (W2_arr m ρ c 3).trans ?_
  rw [L0.keys_eq, rows0, gains0, matrices0]
theorem kept0_keys (c : Dev nD) : W8 m ρ c (Proc.devRef .tc main_v11)
    = heads (keys (flat (argX m c)) (gain0 (argG m c)) (both (cut0 (argK m c)) (cut0 (argV m c)))) :=
  (((((W8_of m ρ c main_v11 (by decide)).trans (W7_of m ρ c main_v11 (by decide))).trans (W6_of m ρ c main_v11 (by decide))).trans (W5_of m ρ c main_v11 (by decide))).trans (W4_of m ρ c main_v11 (by decide))).trans
    ((line1_out0 (W2 m ρ c)).trans (congrArg heads (exit0_keys m ρ c)))
theorem exit0_vals (c : Dev nD) : W2 m ρ c (Proc.devRef .tc main_v10_1)
    = vals (flat (argX m c)) (gain0 (argG m c)) (both (cut0 (argK m c)) (cut0 (argV m c))) := by
  refine (W2_arr m ρ c 4).trans ?_
  rw [L0.vals_eq, rows0, gains0, matrices0]
theorem kept0_vals (c : Dev nD) : W8 m ρ c (Proc.devRef .tc main_v12)
    = heads (vals (flat (argX m c)) (gain0 (argG m c)) (both (cut0 (argK m c)) (cut0 (argV m c)))) :=
  (((((W8_of m ρ c main_v12 (by decide)).trans (W7_of m ρ c main_v12 (by decide))).trans (W6_of m ρ c main_v12 (by decide))).trans (W5_of m ρ c main_v12 (by decide))).trans (W4_of m ρ c main_v12 (by decide))).trans
    ((line1_out1 (W2 m ρ c)).trans (congrArg heads (exit0_vals m ρ c)))

theorem rows1 (c : Dev nD) : L1.rows (V3 m ρ) c = flat (argX m c) :=
  (((W3_of m ρ c main_v0 (by decide)).trans (W2_of m ρ c main_v0 (by decide))).trans (line0_rows (W0 m ρ c)))
theorem gains1 (c : Dev nD) : L1.gain (V3 m ρ) c = gain1 (argG m c) :=
  (line1_gain (W2 m ρ c)).trans (congrArg gain1 (W2_args m ρ c main_arg1 (by decide)))
theorem matrices1 (c : Dev nD) : L1.weights (V3 m ρ) c = both (cut1 (argK m c)) (cut1 (argV m c)) :=
  (line1_weights (W2 m ρ c)).trans
    (congrArg₂ (fun u v => both (cut1 u) (cut1 v)) (W2_args m ρ c main_arg2 (by decide)) (W2_args m ρ c main_arg3 (by decide)))
theorem exit1_keys (c : Dev nD) : W4 m ρ c (Proc.devRef .tc main_v22_0)
    = keys (flat (argX m c)) (gain1 (argG m c)) (both (cut1 (argK m c)) (cut1 (argV m c))) := by
  refine (W4_arr m ρ c 3).trans ?_
  rw [L1.keys_eq, rows1, gains1, matrices1]
theorem kept1_keys (c : Dev nD) : W8 m ρ c (Proc.devRef .tc main_v23)
    = heads (keys (flat (argX m c)) (gain1 (argG m c)) (both (cut1 (argK m c)) (cut1 (argV m c)))) :=
  (((W8_of m ρ c main_v23 (by decide)).trans (W7_of m ρ c main_v23 (by decide))).trans (W6_of m ρ c main_v23 (by decide))).trans
    ((line2_out0 (W4 m ρ c)).trans (congrArg heads (exit1_keys m ρ c)))
theorem exit1_vals (c : Dev nD) : W4 m ρ c (Proc.devRef .tc main_v22_1)
    = vals (flat (argX m c)) (gain1 (argG m c)) (both (cut1 (argK m c)) (cut1 (argV m c))) := by
  refine (W4_arr m ρ c 4).trans ?_
  rw [L1.vals_eq, rows1, gains1, matrices1]
theorem kept1_vals (c : Dev nD) : W8 m ρ c (Proc.devRef .tc main_v24)
    = heads (vals (flat (argX m c)) (gain1 (argG m c)) (both (cut1 (argK m c)) (cut1 (argV m c)))) :=
  (((W8_of m ρ c main_v24 (by decide)).trans (W7_of m ρ c main_v24 (by decide))).trans (W6_of m ρ c main_v24 (by decide))).trans
    ((line2_out1 (W4 m ρ c)).trans (congrArg heads (exit1_vals m ρ c)))

theorem rows2 (c : Dev nD) : L2.rows (V5 m ρ) c = flat (argX m c) :=
  (((((W5_of m ρ c main_v0 (by decide)).trans (W4_of m ρ c main_v0 (by decide))).trans (W3_of m ρ c main_v0 (by decide))).trans (W2_of m ρ c main_v0 (by decide))).trans (line0_rows (W0 m ρ c)))
theorem gains2 (c : Dev nD) : L2.gain (V5 m ρ) c = gain2 (argG m c) :=
  (line2_gain (W4 m ρ c)).trans (congrArg gain2 (W4_args m ρ c main_arg1 (by decide)))
theorem matrices2 (c : Dev nD) : L2.weights (V5 m ρ) c = both (cut2 (argK m c)) (cut2 (argV m c)) :=
  (line2_weights (W4 m ρ c)).trans
    (congrArg₂ (fun u v => both (cut2 u) (cut2 v)) (W4_args m ρ c main_arg2 (by decide)) (W4_args m ρ c main_arg3 (by decide)))
theorem exit2_keys (c : Dev nD) : W6 m ρ c (Proc.devRef .tc main_v34_0)
    = keys (flat (argX m c)) (gain2 (argG m c)) (both (cut2 (argK m c)) (cut2 (argV m c))) := by
  refine (W6_arr m ρ c 3).trans ?_
  rw [L2.keys_eq, rows2, gains2, matrices2]
theorem kept2_keys (c : Dev nD) : W8 m ρ c (Proc.devRef .tc main_v35)
    = heads (keys (flat (argX m c)) (gain2 (argG m c)) (both (cut2 (argK m c)) (cut2 (argV m c)))) :=
  (W8_of m ρ c main_v35 (by decide)).trans
    ((line3_out0 (W6 m ρ c)).trans (congrArg heads (exit2_keys m ρ c)))
theorem exit2_vals (c : Dev nD) : W6 m ρ c (Proc.devRef .tc main_v34_1)
    = vals (flat (argX m c)) (gain2 (argG m c)) (both (cut2 (argK m c)) (cut2 (argV m c))) := by
  refine (W6_arr m ρ c 4).trans ?_
  rw [L2.vals_eq, rows2, gains2, matrices2]
theorem kept2_vals (c : Dev nD) : W8 m ρ c (Proc.devRef .tc main_v36)
    = heads (vals (flat (argX m c)) (gain2 (argG m c)) (both (cut2 (argK m c)) (cut2 (argV m c)))) :=
  (W8_of m ρ c main_v36 (by decide)).trans
    ((line3_out1 (W6 m ρ c)).trans (congrArg heads (exit2_vals m ρ c)))

theorem rows3 (c : Dev nD) : L3.rows (V7 m ρ) c = flat (argX m c) :=
  (((((((W7_of m ρ c main_v0 (by decide)).trans (W6_of m ρ c main_v0 (by decide))).trans (W5_of m ρ c main_v0 (by decide))).trans (W4_of m ρ c main_v0 (by decide))).trans (W3_of m ρ c main_v0 (by decide))).trans (W2_of m ρ c main_v0 (by decide))).trans (line0_rows (W0 m ρ c)))
theorem gains3 (c : Dev nD) : L3.gain (V7 m ρ) c = gain3 (argG m c) :=
  (line3_gain (W6 m ρ c)).trans (congrArg gain3 (W6_args m ρ c main_arg1 (by decide)))
theorem matrices3 (c : Dev nD) : L3.weights (V7 m ρ) c = both (cut3 (argK m c)) (cut3 (argV m c)) :=
  (line3_weights (W6 m ρ c)).trans
    (congrArg₂ (fun u v => both (cut3 u) (cut3 v)) (W6_args m ρ c main_arg2 (by decide)) (W6_args m ρ c main_arg3 (by decide)))
theorem exit3_keys (c : Dev nD) : W8 m ρ c (Proc.devRef .tc main_v46_0)
    = keys (flat (argX m c)) (gain3 (argG m c)) (both (cut3 (argK m c)) (cut3 (argV m c))) := by
  refine (W8_arr m ρ c 3).trans ?_
  rw [L3.keys_eq, rows3, gains3, matrices3]
theorem exit3_vals (c : Dev nD) : W8 m ρ c (Proc.devRef .tc main_v46_1)
    = vals (flat (argX m c)) (gain3 (argG m c)) (both (cut3 (argK m c)) (cut3 (argV m c))) := by
  refine (W8_arr m ρ c 4).trans ?_
  rw [L3.vals_eq, rows3, gains3, matrices3]

theorem final_keys (c : Dev nD) : W9 m ρ c (Proc.devRef .tc main_v53) = project (argX m c) (argG m c) (argK m c) := by
  refine (line4_keys (W8 m ρ c)).trans ?_
  rw [kept0_keys, kept1_keys, kept2_keys, exit3_keys]
  exact keys_stack _ _ _ _

theorem final_vals (c : Dev nD) : W9 m ρ c (Proc.devRef .tc main_v58) = project (argX m c) (argG m c) (argV m c) := by
  refine (line4_values (W8 m ρ c)).trans ?_
  rw [kept0_vals, kept1_vals, kept2_vals, exit3_vals]
  exact vals_stack _ _ _ _

end Kernel

section Reference

open Cert.Reference3Ideal Cert.Reference3Ideal.Gen Idealize.ShloMosaic.StableHlo

variable {F : FTy → Type} [FloatOps F]

/-- The reference's operations, in order. -/
abbrev ops : List (HloOp τ sig (Elt F)) :=
  [ unary main_arg0 main_v0 (broadcastInDim S1x8x256x1024 ![1, 2, 3] bcast_S8x256x1024_S1x8x256x1024_1_2_3 : (⟨S8x256x1024, .f32⟩ : BufTy).Contents (Elt F) → (⟨S1x8x256x1024, .f32⟩ : BufTy).Contents (Elt F)),
    unary main_arg1 main_v1 (broadcastInDim S4x1x1x1024 ![0, 3] bcast_S4x1024_S4x1x1x1024_0_3 : (⟨S4x1024, .f32⟩ : BufTy).Contents (Elt F) → (⟨S4x1x1x1024, .f32⟩ : BufTy).Contents (Elt F)),
    binary main_v0 main_v0 main_v2 (mulf : (⟨S1x8x256x1024, .f32⟩ : BufTy).Contents (Elt F) → (⟨S1x8x256x1024, .f32⟩ : BufTy).Contents (Elt F) → (⟨S1x8x256x1024, .f32⟩ : BufTy).Contents (Elt F)),
    nullary main_cst (constant S_ .f32 0x00000000#32),
    binary main_v2 main_cst main_v3 ((fun x v => Host.reduceAdd x v reducesTo_S1x8x256x1024_S1x8x256_d3 h_S_) : (⟨S1x8x256x1024, .f32⟩ : BufTy).Contents (Elt F) → (⟨S_, .f32⟩ : BufTy).Contents (Elt F) → (⟨S1x8x256, .f32⟩ : BufTy).Contents (Elt F)),
    unary main_v3 main_v4 (broadcastInDim S1x8x256x1 ![0, 1, 2] bcast_S1x8x256_S1x8x256x1_0_1_2 : (⟨S1x8x256, .f32⟩ : BufTy).Contents (Elt F) → (⟨S1x8x256x1, .f32⟩ : BufTy).Contents (Elt F)),
    nullary main_cst_0 (constant S_ .f32 0x44800000#32),
    unary main_cst_0 main_v5 (broadcastInDim S1x8x256x1 ![] bcast_S_S1x8x256x1 : (⟨S_, .f32⟩ : BufTy).Contents (Elt F) → (⟨S1x8x256x1, .f32⟩ : BufTy).Contents (Elt F)),
    binary main_v4 main_v5 main_v6 (Host.divf : (⟨S1x8x256x1, .f32⟩ : BufTy).Contents (Elt F) → (⟨S1x8x256x1, .f32⟩ : BufTy).Contents (Elt F) → (⟨S1x8x256x1, .f32⟩ : BufTy).Contents (Elt F)),
    nullary main_cst_1 (constant S_ .f32 0x358637BD#32),
    unary main_cst_1 main_v7 (broadcastInDim S1x8x256x1 ![] bcast_S_S1x8x256x1 : (⟨S_, .f32⟩ : BufTy).Contents (Elt F) → (⟨S1x8x256x1, .f32⟩ : BufTy).Contents (Elt F)),
    binary main_v6 main_v7 main_v8 (addf : (⟨S1x8x256x1, .f32⟩ : BufTy).Contents (Elt F) → (⟨S1x8x256x1, .f32⟩ : BufTy).Contents (Elt F) → (⟨S1x8x256x1, .f32⟩ : BufTy).Contents (Elt F)),
    unary main_v8 main_v9 (Host.rsqrt : (⟨S1x8x256x1, .f32⟩ : BufTy).Contents (Elt F) → (⟨S1x8x256x1, .f32⟩ : BufTy).Contents (Elt F)),
    unary main_v9 main_v10 (broadcastInDim S1x8x256x1024 ![0, 1, 2, 3] bcast_S1x8x256x1_S1x8x256x1024_0_1_2_3 : (⟨S1x8x256x1, .f32⟩ : BufTy).Contents (Elt F) → (⟨S1x8x256x1024, .f32⟩ : BufTy).Contents (Elt F)),
    binary main_v0 main_v10 main_v11 (mulf : (⟨S1x8x256x1024, .f32⟩ : BufTy).Contents (Elt F) → (⟨S1x8x256x1024, .f32⟩ : BufTy).Contents (Elt F) → (⟨S1x8x256x1024, .f32⟩ : BufTy).Contents (Elt F)),
    unary main_v11 main_v12 (broadcastInDim S4x8x256x1024 ![0, 1, 2, 3] bcast_S1x8x256x1024_S4x8x256x1024_0_1_2_3 : (⟨S1x8x256x1024, .f32⟩ : BufTy).Contents (Elt F) → (⟨S4x8x256x1024, .f32⟩ : BufTy).Contents (Elt F)),
    unary main_v1 main_v13 (broadcastInDim S4x8x256x1024 ![0, 1, 2, 3] bcast_S4x1x1x1024_S4x8x256x1024_0_1_2_3 : (⟨S4x1x1x1024, .f32⟩ : BufTy).Contents (Elt F) → (⟨S4x8x256x1024, .f32⟩ : BufTy).Contents (Elt F)),
    binary main_v12 main_v13 main_v14 (mulf : (⟨S4x8x256x1024, .f32⟩ : BufTy).Contents (Elt F) → (⟨S4x8x256x1024, .f32⟩ : BufTy).Contents (Elt F) → (⟨S4x8x256x1024, .f32⟩ : BufTy).Contents (Elt F)),
    binary main_v14 main_arg2 main_v15 ((fun l r => Host.dotGeneral dot_S4x8x256x1024_S4x1024x512_S4x8x256x512_3_1_12_2_0_0 none l r) : (⟨S4x8x256x1024, .f32⟩ : BufTy).Contents (Elt F) → (⟨S4x1024x512, .f32⟩ : BufTy).Contents (Elt F) → (⟨S4x8x256x512, .f32⟩ : BufTy).Contents (Elt F)),
    binary main_v14 main_arg3 main_v16 ((fun l r => Host.dotGeneral dot_S4x8x256x1024_S4x1024x512_S4x8x256x512_3_1_12_2_0_0 none l r) : (⟨S4x8x256x1024, .f32⟩ : BufTy).Contents (Elt F) → (⟨S4x1024x512, .f32⟩ : BufTy).Contents (Elt F) → (⟨S4x8x256x512, .f32⟩ : BufTy).Contents (Elt F)),
    reshape main_v15 main_v17 (rfl : (.f32 : EltTy) = .f32) shapeCasts_S4x8x256x512_S4x8x256x4x128,
    reshape main_v16 main_v18 (rfl : (.f32 : EltTy) = .f32) shapeCasts_S4x8x256x512_S4x8x256x4x128 ]

theorem main_eq (c : Dev nD) : main (F := F) c = seq ops := rfl
theorem no_scoped_refs : (Finset.univ.filter fun b : Ref sig .tc => b.isScoped) = ∅ := by decide
theorem no_scoped_sems : (Finset.univ.filter fun sm : SemLoc sig => sm.isScoped .tc) = ∅ := by decide
theorem ops_sub : (ops : List (HloOp τ sig (Elt F))).Forall fun op => op.bufs ⊆ tcRefs τ sig :=
  ⟨unary_bufs_sub .., unary_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., binary_bufs_sub .., binary_bufs_sub .., reshape_bufs_sub .., reshape_bufs_sub ..⟩

section Values

variable (x : FVec Ideal S8x256x1024 .f32) (g : FVec Ideal S4x1024 .f32) (w : FVec Ideal S4x1024x512 .f32)

/-- The memory, a unit axis before it. -/
def lifted : FVec Ideal S1x8x256x1024 .f32 := broadcastInDim S1x8x256x1024 ![1, 2, 3] bcast_S8x256x1024_S1x8x256x1024_1_2_3 x
/-- The reciprocal root of a row's mean square. -/
def root : FVec Ideal S1x8x256x1 .f32 :=
  Host.rsqrt (addf (Host.divf (broadcastInDim S1x8x256x1 ![0, 1, 2] bcast_S1x8x256_S1x8x256x1_0_1_2
      (Host.reduceAdd (mulf (lifted x) (lifted x)) (constant S_ .f32 0x00000000#32) reducesTo_S1x8x256x1024_S1x8x256_d3 h_S_))
    (broadcastInDim S1x8x256x1 ![] bcast_S_S1x8x256x1 (constant S_ .f32 0x44800000#32)))
    (broadcastInDim S1x8x256x1 ![] bcast_S_S1x8x256x1 (constant S_ .f32 0x358637BD#32)))
/-- The memory normed with every layer's gain. -/
def layers : FVec Ideal S4x8x256x1024 .f32 :=
  mulf (broadcastInDim S4x8x256x1024 ![0, 1, 2, 3] bcast_S1x8x256x1024_S4x8x256x1024_0_1_2_3
      (mulf (lifted x) (broadcastInDim S1x8x256x1024 ![0, 1, 2, 3] bcast_S1x8x256x1_S1x8x256x1024_0_1_2_3 (root x))))
    (broadcastInDim S4x8x256x1024 ![0, 1, 2, 3] bcast_S4x1x1x1024_S4x8x256x1024_0_1_2_3
      (broadcastInDim S4x1x1x1024 ![0, 3] bcast_S4x1024_S4x1x1x1024_0_3 g))
/-- Every layer's product, its columns as heads. -/
def product : FVec Ideal S4x8x256x4x128 .f32 :=
  shapeCast S4x8x256x4x128 (Host.dotGeneral dot_S4x8x256x1024_S4x1024x512_S4x8x256x512_3_1_12_2_0_0 none (layers x g) w)
    shapeCasts_S4x8x256x512_S4x8x256x4x128

theorem lifted_apply (b : Fin 8) (n : Fin 256) (d : Fin 1024) : lifted x (ix4 0 b n d) = x (ix3 b n d) := by
  pointwise [lifted]

theorem layers_apply (l : Fin 4) (b : Fin 8) (n : Fin 256) (d : Fin 1024) : layers x g (ix4 l b n d) = entry x g l b n d := by
  pointwise [layers, root, lifted, entry]

theorem product_eq : product x g w = project x g w := by
  funext i
  obtain ⟨l, b, n, h, e, rfl⟩ : ∃ (l : Fin 4) (b : Fin 8) (n : Fin 256) (h : Fin 4) (e : Fin 128), i = ix5 l b n h e :=
    ⟨_, _, _, _, _, eq_ix5 i⟩
  pointwise [product, project]
  simp only [layers_apply]

theorem reference_keys (X : Valuation τ sig (Elt Ideal)) : after (ops (F := Ideal)) X (Proc.devRef .tc main_v17)
    = product (X (Proc.devRef .tc main_arg0)) (X (Proc.devRef .tc main_arg1)) (X (Proc.devRef .tc main_arg2)) := by
  after_reads_simp
  rfl
theorem reference_values (X : Valuation τ sig (Elt Ideal)) : after (ops (F := Ideal)) X (Proc.devRef .tc main_v18)
    = product (X (Proc.devRef .tc main_arg0)) (X (Proc.devRef .tc main_arg1)) (X (Proc.devRef .tc main_arg3)) := by
  after_reads_simp
  rfl

end Values

/-- Every run of the reference ends with its operations' results, the arguments as launched. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v17) = project (m ((c.tc : Thread nD τ).loc main_arg0))
          (m ((c.tc : Thread nD τ).loc main_arg1)) (m ((c.tc : Thread nD τ).loc main_arg2))
      ∧ r.2.mem ((c.tc : Thread nD τ).loc main_v18) = project (m ((c.tc : Thread nD τ).loc main_arg0))
          (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨(h c main_v17).trans ((reference_keys _).trans (product_eq _ _ _)),
       (h c main_v18).trans ((reference_values _).trans (product_eq _ _ _)),
       (h c main_arg0).trans (by after_results), (h c main_arg1).trans (by after_results),
       (h c main_arg2).trans (by after_results), (h c main_arg3).trans (by after_results)⟩)
    (run_seq no_scoped_refs no_scoped_sems defs main (fun _ => ops) main_eq (fun _ => ops_sub) m ρ)

end Reference

theorem frame_kernel : Cert.quiescent_Kernel3 := fun m ρ _ => Cert.Kernel3.Gen.frame m ρ

theorem frame_ideal : Cert.quiescent_Kernel3Ideal := fun m ρ _ => Cert.Kernel3Ideal.Gen.frame m ρ

theorem frame_reference : Cert.quiescent_Reference3Ideal := fun m ρ _ =>
  (θ_run Cert.Reference3Ideal.defs _ _).mono
    (fun r h => ⟨fun c => (h c).2.2, sem_eq_zero_of_no_sems (by decide) r.2⟩) (reference_run m ρ)

theorem preserves : Cert.preserves_Kernel3_Kernel3Ideal := trivial

/-- Kernel and reference end with the same stacks of keys and of values. -/
theorem algebraic : Cert.algebraic_Kernel3Ideal_Reference3Ideal := by
  intro m g m' g' _ hagree
  refine ⟨fun c => project (argX m c) (argG m c) (argK m c), fun c => project (argX m c) (argG m c) (argV m c), ?_, ?_⟩
  · refine (θ_run Cert.Kernel3Ideal.defs _ _).mono (fun _ h c => ?_) (run (F := Ideal) m g)
    obtain ⟨q0, q1, q⟩ := h c
    exact ⟨q0.trans (final_keys m g c), q1.trans (final_vals m g c), q⟩
  · refine (θ_run Cert.Reference3Ideal.defs _ _).mono (fun _ h c => ?_) (reference_run m' g')
    obtain ⟨h0, h1, h2, h3⟩ := hagree c
    obtain ⟨q0, q1, q⟩ := h c
    exact ⟨q0.trans (by rw [h0, h1, h2]), q1.trans (by rw [h0, h1, h3]), q⟩

end Cert.Proof.Memory
-- ==== Proof.Softmax.lean ====
/- One row of attention, free of any program: powers of two of scores scaled by 1 / log 2 against exponentials of the scores,
   and dividing the weighted sum against dividing the weights. A score may be minus infinity, where it is masked. -/
module

public import proofs.«01_k».proof.Proof.RefValue

@[expose] public section

noncomputable section

namespace Cert.Proof

open Idealize.ShloMosaic

/-- A row's greatest score. -/
def peak {n : ℕ} (s : Fin n → EReal) : EReal := Finset.univ.fold max ⊥ s

/-- A score: a number, or minus infinity. -/
def IsScore (x : EReal) : Prop := x = ⊥ ∨ IsNum x

theorem peak_eq_sup {n : ℕ} (s : Fin n → EReal) : peak s = Finset.univ.sup s := rfl

theorem le_peak {n : ℕ} (s : Fin n → EReal) (k : Fin n) : s k ≤ peak s := by
  rw [peak_eq_sup]; exact Finset.le_sup (Finset.mem_univ k)

theorem peak_mem {n : ℕ} (s : Fin n → EReal) (k : Fin n) : ∃ j, peak s = s j := by
  rw [peak_eq_sup]
  obtain ⟨j, _, h⟩ := Finset.exists_mem_eq_sup Finset.univ ⟨k, Finset.mem_univ k⟩ s
  exact ⟨j, h⟩

/-- The greatest score of a row that has a number is a number. -/
theorem peak_isNum {n : ℕ} {s : Fin n → EReal} (h : ∀ k, IsScore (s k)) {k : Fin n} (hk : IsNum (s k)) :
    IsNum (peak s) := by
  obtain ⟨j, hj⟩ := peak_mem s k
  rcases h j with hb | hn
  · obtain ⟨r, hr⟩ := hk
    have := le_peak s k
    rw [hj, hb, hr] at this
    exact absurd this (by simp)
  · rwa [hj]

theorem mul_coe_mono {c : ℝ} (hc : 0 < c) {x y : EReal} (h : x ≤ y) : x * (c : EReal) ≤ y * (c : EReal) :=
  mul_le_mul_of_nonneg_right h (EReal.coe_nonneg.mpr hc.le)

/-- Scaling a row by a positive number scales its greatest score. -/
theorem peak_mul {n : ℕ} (s : Fin n → EReal) {c : ℝ} (hc : 0 < c) : peak (fun k => s k * (c : EReal)) = peak s * (c : EReal) := by
  unfold peak
  have h := Finset.fold_hom (op := (max : EReal → EReal → EReal)) (op' := max) (m := fun x : EReal => x * (c : EReal)) (s := Finset.univ)
    (b := ⊥) (f := s) (fun x y => by
      rcases le_total x y with hxy | hxy
      · rw [max_eq_right hxy, max_eq_right (mul_coe_mono hc hxy)]
      · rw [max_eq_left hxy, max_eq_left (mul_coe_mono hc hxy)])
  rw [← h, EReal.bot_mul_coe_of_pos hc]

theorem exp2_scaled (r : ℝ) : Ideal.exp2 ((r * (Real.log 2)⁻¹ : ℝ) : EReal) = ((Real.exp r : ℝ) : EReal) := by
  rw [Ideal.exp2_coe]
  refine congrArg Real.toEReal ?_
  show (2 : ℝ) ^ (r * (Real.log 2)⁻¹) = Real.exp r
  have h2 : Real.log 2 ≠ 0 := (Real.log_pos (by norm_num)).ne'
  rw [Real.rpow_def_of_pos (by norm_num : (0 : ℝ) < 2)]
  congr 1
  field_simp

/-- The power of two of scaled scores is the exponential of the scores, at a score and a number. -/
theorem exp2_sub {x y : EReal} (hx : IsScore x) (hy : IsNum y) :
    Ideal.exp2 (x * (((Real.log 2)⁻¹ : ℝ) : EReal) - y * (((Real.log 2)⁻¹ : ℝ) : EReal)) = Ideal.exp (x - y) := by
  have hc : (0 : ℝ) < (Real.log 2)⁻¹ := inv_pos.mpr (Real.log_pos (by norm_num))
  obtain ⟨b, rfl⟩ := hy
  rcases hx with rfl | ⟨a, rfl⟩
  · rw [EReal.bot_mul_coe_of_pos hc, EReal.bot_sub, EReal.bot_sub]
    rfl
  · rw [← EReal.coe_mul, ← EReal.coe_mul, ← EReal.coe_sub, ← EReal.coe_sub, Ideal.exp_coe, ← sub_mul, exp2_scaled]

/-- The exponential of a score less a number is a number, at least zero. -/
theorem exp_sub_num {x y : EReal} (hx : IsScore x) (hy : IsNum y) : ∃ w : ℝ, 0 ≤ w ∧ Ideal.exp (x - y) = (w : EReal) := by
  obtain ⟨b, rfl⟩ := hy
  rcases hx with rfl | ⟨a, rfl⟩
  · exact ⟨0, le_rfl, by rw [EReal.bot_sub]; rfl⟩
  · exact ⟨Real.exp (a - b), (Real.exp_pos _).le, by rw [← EReal.coe_sub, Ideal.exp_coe]⟩

/-- A sum of extended reals times a number that is not negative. -/
theorem sum_mul_num {n : ℕ} (f : Fin n → EReal) {c : ℝ} (hc : 0 ≤ c) : (∑ k, f k) * (c : EReal) = ∑ k, f k * (c : EReal) := by
  classical
  have h : ∀ s : Finset (Fin n), (∑ k ∈ s, f k) * (c : EReal) = ∑ k ∈ s, f k * (c : EReal) := fun s => by
    induction s using Finset.induction_on with
    | empty => simp
    | insert a s ha ih =>
      rw [Finset.sum_insert ha, Finset.sum_insert ha, ← ih]
      exact EReal.right_distrib_of_nonneg_of_ne_top (EReal.coe_nonneg.mpr hc) (EReal.coe_ne_top c) _ _
  exact h Finset.univ

/-- A row's attention as the kernels compute it: the weighted sum, divided by the sum of the weights. -/
def rowHead {n : ℕ} (s v : Fin n → EReal) : EReal :=
  Ideal.div (∑ k, Ideal.exp2 (s k - peak s) * v k) (∑ k, Ideal.exp2 (s k - peak s))

/-- A row's attention as the references compute it: the weights divided by their sum, then the weighted sum. -/
def rowSoftmax {n : ℕ} (t v : Fin n → EReal) : EReal :=
  ∑ k, v k * Ideal.div (Ideal.exp (t k - peak t)) (∑ j, Ideal.exp (t j - peak t))

/-- The two are the same of scores of which one at least is a number. -/
theorem rowHead_eq {n : ℕ} (t v : Fin n → EReal) (h : ∀ k, IsScore (t k)) {k : Fin n} (hk : IsNum (t k)) :
    rowHead (fun j => t j * (((Real.log 2)⁻¹ : ℝ) : EReal)) v = rowSoftmax t v := by
  have hc : (0 : ℝ) < (Real.log 2)⁻¹ := inv_pos.mpr (Real.log_pos (by norm_num))
  have hT := peak_isNum h hk
  unfold rowHead rowSoftmax
  rw [peak_mul t hc]
  simp only [fun j => exp2_sub (h j) hT]
  choose w hw he using fun j => exp_sub_num (h j) hT
  simp only [he]
  rw [sum_real]
  have hL : (0 : ℝ) < ∑ j, w j := by
    obtain ⟨j, hj⟩ := peak_mem t k
    obtain ⟨T, hT⟩ := hT
    have h1 : w j = 1 := by
      have := he j
      rw [← hj, hT, ← EReal.coe_sub, sub_self, Ideal.exp_coe, Real.exp_zero] at this
      exact (EReal.coe_eq_coe_iff.mp this).symm
    have h2 := Finset.single_le_sum (fun i _ => hw i) (Finset.mem_univ j)
    rw [h1] at h2
    exact lt_of_lt_of_le one_pos h2
  rw [Ideal.div_coe hL.ne', sum_mul_num _ (one_div_pos.mpr hL).le]
  refine Finset.sum_congr rfl fun j _ => ?_
  rw [Ideal.div_coe hL.ne', mul_comm (w j : EReal) (v j), mul_assoc]

/-- The same with the scores' own positive scale folded into the kernel's. -/
theorem rowHead_scaled {n : ℕ} (a v : Fin n → EReal) (h : ∀ k, IsNum (a k)) (k : Fin n) {c : ℝ} :
    rowHead (fun j => a j * (((Real.log 2)⁻¹ * c : ℝ) : EReal)) v = rowSoftmax (fun j => a j * (c : EReal)) v := by
  rw [← rowHead_eq (fun j => a j * (c : EReal)) v (fun j => Or.inr ((h j).mul ⟨c, rfl⟩)) (k := k) ((h k).mul ⟨c, rfl⟩)]
  refine congrArg (rowHead · v) (funext fun j => ?_)
  rw [mul_assoc, ← EReal.coe_mul, mul_comm c]

end Cert.Proof
-- ==== Proof.Cross.lean ====
/- The cross attention over the memory: 512 tokens a grid point, their batch entry's 256 memory rows, four heads. -/
module

public import proofs.«01_k».proof.Defs
public import proofs.«01_k».proof.Proof.Softmax
public import proofs.«01_k».proof.Proof.Gen.Kernel4Ideal.Frame
public import proofs.«01_k».proof.Proof.Gen.Kernel4Ideal.Value
public import Idealize.ShloMosaic.Lib.Pipeline.ValueKit
public import Idealize.ShloMosaic.Lib.Claim

@[expose] public section

set_option maxRecDepth 16384

noncomputable section

namespace Cert.Proof.Cross

open Idealize.ShloMosaic Idealize.ShloMosaic.TcCoe Idealize.SL.Sem
open Cert.Kernel4Ideal Cert.Kernel4Ideal.Gen

/-! ## The layer's mathematics, entry by entry -/

/-- The call's six arguments. -/
structure Operands where
  /-- The tokens. -/
  x : FVec Ideal S16384x1024 .f32
  /-- The norm's gain. -/
  gain : FVec Ideal S1024 .f32
  /-- The query projection. -/
  wq : FVec Ideal S1024x512 .f32
  /-- The output projection. -/
  wo : FVec Ideal S512x1024 .f32
  /-- The memory keys. -/
  keys : FVec Ideal S8x256x4x128 .f32
  /-- The memory values. -/
  vals : FVec Ideal S8x256x4x128 .f32

namespace Operands

variable (a : Operands) (t : Fin 16384)

/-- The batch entry of a token. -/
def batch : Fin 8 := ⟨t.val / 2048, by omega⟩

/-- A token normed. -/
def normed (d : Fin 1024) : EReal :=
  a.x (ix2 t d) * Ideal.rsqrt (Ideal.div (∑ k, a.x (ix2 t k) * a.x (ix2 t k)) (Ideal.ofBits .f32 1149239296#32)
    + Ideal.ofBits .f32 897988541#32) * a.gain (ix1 d)

/-- A token's query, the four heads side by side. -/
def query (j : Fin 512) : EReal := ∑ d, a.normed t d * a.wq (ix2 d j)

/-- A token's product with a memory row in one head. -/
def score (h : Fin 4) (k : Fin 256) : EReal := ∑ e : Fin 128, a.query t ⟨128 * h.val + e.val, by omega⟩ * a.keys (ix4 (batch t) k h e)

/-- One entry of a head's attention. -/
def head (h : Fin 4) (e : Fin 128) : EReal :=
  rowSoftmax (fun k => a.score t h k * (((Real.sqrt 128)⁻¹ : ℝ) : EReal)) fun k => a.vals (ix4 (batch t) k h e)

/-- One entry of the result: the token plus the projected heads. -/
def result (d : Fin 1024) : EReal :=
  a.x (ix2 t d) + ∑ j : Fin 512, a.head t ⟨j.val / 128, by omega⟩ ⟨j.val % 128, by omega⟩ * a.wo (ix2 j d)

/-- What the scores are computed from is finite. -/
structure Finite : Prop where
  x : ∀ i, IsNum (a.x i)
  gain : ∀ i, IsNum (a.gain i)
  wq : ∀ i, IsNum (a.wq i)
  keys : ∀ i, IsNum (a.keys i)

theorem Finite.normed (h : a.Finite) (d : Fin 1024) : IsNum (a.normed t d) :=
  rms_isNum (fun k => h.x (ix2 t k)) (h.gain _) d

theorem Finite.score (h : a.Finite) (j : Fin 4) (k : Fin 256) : IsNum (a.score t j k) :=
  IsNum.sum fun _ => (IsNum.sum fun d => (h.normed a t d).mul (h.wq _)).mul (h.keys _)

end Operands

/-! ## The kernel's block -/

theorem scale_eq : Named.named (F := Ideal) κ "cross_scale" (φ := .f32) 0x3E0293EE#32
    = (((Real.log 2)⁻¹ * (Real.sqrt 128)⁻¹ : ℝ) : EReal) := IdealRules.named_const.ideal_named_scalar _ _ _ _ rfl

section Payloads

variable (r : Fin 512)

theorem pay2_apply (v0 : Vec Ideal S512x1024 .f32) (v1 : Vec Ideal S1x1024 .f32) (v16 : Vec Ideal S1024x512 .bf16)
    (k : Vec Ideal S1x256x128 .f32) (l : Fin 256) : k0_pay2 v0 v1 v16 k (ix2 r l)
      = (∑ e : Fin 128, k0_pay1 v0 v1 v16 (ix2 r ⟨e.val, by omega⟩) * k (ix3 0 l e)) * (((Real.log 2)⁻¹ * (Real.sqrt 128)⁻¹ : ℝ) : EReal) := by
  pointwise [k0_pay2]
  rw [scale_eq]

theorem pay3_apply (v0 : Vec Ideal S512x1024 .f32) (v1 : Vec Ideal S1x1024 .f32) (v16 : Vec Ideal S1024x512 .bf16)
    (k : Vec Ideal S1x256x128 .f32) (l : Fin 256) : k0_pay3 v0 v1 v16 k (ix2 r l)
      = (∑ e : Fin 128, k0_pay1 v0 v1 v16 (ix2 r ⟨128 + e.val, by omega⟩) * k (ix3 0 l e)) * (((Real.log 2)⁻¹ * (Real.sqrt 128)⁻¹ : ℝ) : EReal) := by
  pointwise [k0_pay3]
  rw [scale_eq]

theorem pay5_apply (v0 : Vec Ideal S512x1024 .f32) (v1 : Vec Ideal S1x1024 .f32) (v16 : Vec Ideal S1024x512 .bf16)
    (k : Vec Ideal S1x256x128 .f32) (l : Fin 256) : k0_pay5 (k0_pay4 v0 v1 v16) k (ix2 r l)
      = (∑ e : Fin 128, k0_pay1 v0 v1 v16 (ix2 r ⟨256 + e.val, by omega⟩) * k (ix3 0 l e)) * (((Real.log 2)⁻¹ * (Real.sqrt 128)⁻¹ : ℝ) : EReal) := by
  pointwise [k0_pay5, k0_pay4]
  rw [scale_eq]

theorem pay6_apply (q : FVec Ideal S512x512 .f32) (k : Vec Ideal S1x256x128 .f32) (l : Fin 256) : k0_pay6 q k (ix2 r l)
      = (∑ e : Fin 128, q (ix2 r ⟨384 + e.val, by omega⟩) * k (ix3 0 l e)) * (((Real.log 2)⁻¹ * (Real.sqrt 128)⁻¹ : ℝ) : EReal) := by
  pointwise [k0_pay6]
  rw [scale_eq]

theorem pay7_apply (s : FVec Ideal S512x256 .f32) (v : Vec Ideal S1x256x128 .f32) (e : Fin 128) :
    k0_pay7 s v (ix2 r e) = rowHead (fun l => s (ix2 r l)) (fun l => v (ix3 0 l e)) := by
  pointwise [k0_pay7]
  rw [ofBits_negInf]
  rfl

theorem pay8_apply (s : FVec Ideal S512x256 .f32) (l : Fin 256) :
    k0_pay8 s (ix2 r l) = Ideal.exp2 (s (ix2 r l) - peak fun l => s (ix2 r l)) := by
  pointwise [k0_pay8]
  rw [ofBits_negInf]
  rfl

theorem pay9_apply (s : FVec Ideal S512x256 .f32) :
    k0_pay9 s (ix2 r 0) = ∑ l, Ideal.exp2 (s (ix2 r l) - peak fun l => s (ix2 r l)) := by
  pointwise [k0_pay9]
  exact Finset.sum_congr rfl fun l _ => pay8_apply r s l

/-- The four heads side by side. -/
theorem heads_apply (a b c d : FVec Ideal S512x128 .bf16) (H : Fin 4 → Fin 128 → EReal)
    (ha : ∀ e, a (ix2 r e) = H 0 e) (hb : ∀ e, b (ix2 r e) = H 1 e) (hc : ∀ e, c (ix2 r e) = H 2 e) (hd : ∀ e, d (ix2 r e) = H 3 e)
    (j : Fin 512) :
    (concatenate S512x512 1 [⟨S512x128, a⟩, ⟨S512x128, b⟩, ⟨S512x128, c⟩, ⟨S512x128, d⟩]
        concatenates_S512x128_S512x128_S512x128_S512x128_S512x512_d1 : FVec Ideal S512x512 .bf16) (ix2 r j)
      = H ⟨j.val / 128, by omega⟩ ⟨j.val % 128, by omega⟩ := by
  have hj := j.isLt
  rcases (by omega : j.val < 128 ∨ (128 ≤ j.val ∧ j.val < 256) ∨ (256 ≤ j.val ∧ j.val < 384) ∨ 384 ≤ j.val) with h | h | h | h
  · obtain ⟨e, rfl⟩ : ∃ e : Fin 128, j = ⟨e.val, by clear * -; omega⟩ := ⟨⟨j.val, h⟩, rfl⟩
    refine (show _ = a (ix2 r e) by pointwise).trans ((ha e).trans (congrArg₂ H (Fin.ext ?_) (Fin.ext ?_)))
    · show 0 = e.val / 128; omega
    · show e.val = e.val % 128; omega
  · obtain ⟨e, rfl⟩ : ∃ e : Fin 128, j = ⟨128 + e.val, by clear * -; omega⟩ := ⟨⟨j.val - 128, by omega⟩, Fin.ext (by show j.val = 128 + (j.val - 128); omega)⟩
    refine (show _ = b (ix2 r e) by pointwise).trans ((hb e).trans (congrArg₂ H (Fin.ext ?_) (Fin.ext ?_)))
    · show 1 = (128 + e.val) / 128; omega
    · show e.val = (128 + e.val) % 128; omega
  · obtain ⟨e, rfl⟩ : ∃ e : Fin 128, j = ⟨256 + e.val, by clear * -; omega⟩ := ⟨⟨j.val - 256, by omega⟩, Fin.ext (by show j.val = 256 + (j.val - 256); omega)⟩
    refine (show _ = c (ix2 r e) by
      pointwise
      rw [dif_neg (by omega), dif_neg (by omega), dif_pos (by omega)]
      exact congrArg c (congrArg (ix2 r) (Fin.ext (by show 256 + e.val - 128 - 128 = e.val; omega)))).trans ((hc e).trans (congrArg₂ H (Fin.ext ?_) (Fin.ext ?_)))
    · show 2 = (256 + e.val) / 128; omega
    · show e.val = (256 + e.val) % 128; omega
  · obtain ⟨e, rfl⟩ : ∃ e : Fin 128, j = ⟨384 + e.val, by clear * -; omega⟩ := ⟨⟨j.val - 384, by omega⟩, Fin.ext (by show j.val = 384 + (j.val - 384); omega)⟩
    refine (show _ = d (ix2 r e) by
      pointwise
      rw [dif_neg (by omega), dif_neg (by omega), dif_neg (by omega)]
      exact congrArg d (congrArg (ix2 r) (Fin.ext (by show 384 + e.val - 128 - 128 - 128 = e.val; omega)))).trans ((hd e).trans (congrArg₂ H (Fin.ext ?_) (Fin.ext ?_)))
    · show 3 = (384 + e.val) / 128; omega
    · show e.val = (384 + e.val) % 128; omega

/-- The token plus the projection of the four heads. -/
theorem proj_apply (x : FVec Ideal S512x1024 .f32) (q : FVec Ideal S512x512 .bf16) (w : FVec Ideal S512x1024 .bf16)
    (H : Fin 512 → EReal) (hq : ∀ j, q (ix2 r j) = H j) (d : Fin 1024) :
    addf x (matmul dot_S512x512_S512x1024_S512x1024_1_0_0_1_n_n none q (shapeCast S512x1024 w shapeCasts_S512x1024_S512x1024)
        (constant S512x1024 .f32 0x00000000#32)) (ix2 r d)
      = x (ix2 r d) + ∑ j, H j * w (ix2 j d) := by
  pointwise
  simp only [hq]

/-- The block's result from what is read off the heads. -/
theorem pay12_apply (x : Vec Ideal S512x1024 .f32) (s2 s3 : FVec Ideal S512x256 .f32) (o0 : FVec Ideal S512x128 .bf16)
    (l1 : FVec Ideal S512x1 .f32) (p1 : FVec Ideal S512x256 .bf16) (u1 : FVec Ideal S256x128 .bf16)
    (u2 u3 : Vec Ideal S1x256x128 .f32) (w : Vec Ideal S512x1024 .bf16) (H : Fin 4 → Fin 128 → EReal)
    (h0 : ∀ e, o0 (ix2 r e) = H 0 e)
    (h1 : ∀ e, Ideal.div (∑ l, p1 (ix2 r l) * u1 (ix2 l e)) (l1 (ix2 r 0)) = H 1 e)
    (h2 : ∀ e, rowHead (fun l => s2 (ix2 r l)) (fun l => u2 (ix3 0 l e)) = H 2 e)
    (h3 : ∀ e, rowHead (fun l => s3 (ix2 r l)) (fun l => u3 (ix3 0 l e)) = H 3 e) (d : Fin 1024) :
    k0_pay12 x s2 s3 o0 l1 p1 u1 u2 u3 w (ix2 r d)
      = x (ix2 r d) + ∑ j : Fin 512, H ⟨j.val / 128, by omega⟩ ⟨j.val % 128, by omega⟩ * w (ix2 j d) := by
  unfold k0_pay12
  refine proj_apply r x _ w _ (heads_apply r o0 _ _ _ H h0 (fun e => (Eq.trans ?_ (h1 e))) (fun e => Eq.trans ?_ (h2 e))
    fun e => Eq.trans ?_ (h3 e)) d
  · pointwise
  · pointwise
    rw [ofBits_negInf]
    rfl
  · pointwise
    rw [ofBits_negInf]
    rfl

end Payloads

/-! ## The blocks -/

section Kernel

variable (m : (ℓ : Loc nD τ sig) → Buf (Elt Ideal) ℓ)

/-- The call's arguments on core `c`. -/
def argsOf (c : Dev nD) : Operands where
  x := m (c, Proc.tc.devRef main_arg0)
  gain := m (c, Proc.tc.devRef main_arg1)
  wq := m (c, Proc.tc.devRef main_arg2)
  wo := m (c, Proc.tc.devRef main_arg3)
  keys := m (c, Proc.tc.devRef main_arg4)
  vals := m (c, Proc.tc.devRef main_arg5)

theorem idx_x : ∀ t : Fin grid0.N, win0_0.index t = ![t.val, 0] := by decide +kernel
theorem idx_g : ∀ t : Fin grid0.N, win0_1.index t = ![0, 0] := by decide +kernel
theorem idx_wq : ∀ t : Fin grid0.N, win0_2.index t = ![0, 0] := by decide +kernel
theorem idx_wo : ∀ t : Fin grid0.N, win0_3.index t = ![0, 0] := by decide +kernel
theorem idx_mk : ∀ t : Fin grid0.N, win0_4.index t = ![t.val / 4, 0, 0] := by decide +kernel
theorem idx_mv : ∀ t : Fin grid0.N, win0_5.index t = ![t.val / 4, 0, 0] := by decide +kernel
theorem idx_y : ∀ t : Fin grid0.N, win0_6.index t = ![t.val, 0] := by decide +kernel

theorem t_lt (t : Fin cfg0.N) : t.val < 32 := lt_of_lt_of_eq t.isLt (show cfg0.N = 32 from N_0)

/-- The token of row `r` in the block of point `t`. -/
def tok (t : Fin cfg0.N) (r : Fin 512) : Fin 16384 := ⟨512 * t.val + r.val, by have := t_lt t; omega⟩

theorem batch_tok (t : Fin cfg0.N) (r : Fin 512) : Operands.batch (tok t r) = ⟨t.val / 4, by have := t_lt t; omega⟩ :=
  Fin.ext (by show (512 * t.val + r.val) / 2048 = t.val / 4; omega)

theorem x_apply (c : Dev nD) (t : Fin cfg0.N) (r : Fin 512) (d : Fin 1024) :
    (iblk m c 0 t : Vec Ideal S512x1024 .f32) (ix2 r d) = (argsOf m c).x (ix2 (tok t r) d) := by
  blk_point [iblk, V, idx_x t, tok, argsOf]
theorem g_apply (c : Dev nD) (t : Fin cfg0.N) (d : Fin 1024) :
    (iblk m c 1 t : Vec Ideal S1x1024 .f32) (ix2 0 d) = (argsOf m c).gain (ix1 d) := by
  blk_point [iblk, V, idx_g t, argsOf]
theorem wq_apply (c : Dev nD) (t : Fin cfg0.N) (d : Fin 1024) (j : Fin 512) :
    (iblk m c 2 t : Vec Ideal S1024x512 .bf16) (ix2 d j) = (argsOf m c).wq (ix2 d j) := by
  blk_point [iblk, V, idx_wq t, argsOf]
theorem wo_apply (c : Dev nD) (t : Fin cfg0.N) (j : Fin 512) (d : Fin 1024) :
    (iblk m c 3 t : Vec Ideal S512x1024 .bf16) (ix2 j d) = (argsOf m c).wo (ix2 j d) := by
  blk_point [iblk, V, idx_wo t, argsOf]

/-- The query of a row, from the blocks it is computed from. -/
theorem query_apply (c : Dev nD) (t : Fin cfg0.N) (r j : Fin 512) (x : Vec Ideal S512x1024 .f32) (g : Vec Ideal S1x1024 .f32)
    (w : Vec Ideal S1024x512 .bf16) (hx : ∀ d, x (ix2 r d) = (argsOf m c).x (ix2 (tok t r) d))
    (hg : ∀ d, g (ix2 0 d) = (argsOf m c).gain (ix1 d)) (hw : ∀ d, w (ix2 d j) = (argsOf m c).wq (ix2 d j)) :
    k0_pay1 x g w (ix2 r j) = (argsOf m c).query (tok t r) j := by
  unfold Operands.query Operands.normed
  pointwise [k0_pay1]
  simp only [hx, hg, hw]

theorem keys_apply (c : Dev nD) (t : Fin cfg0.N) (r : Fin 512) (k : Fin 256) (h : Fin 4) (e : Fin 128) (j : Fin 512)
    (hj : j.val = 128 * h.val + e.val) :
    (iblk m c 4 t : Vec Ideal S1x256x512 .f32) (ix3 0 k j) = (argsOf m c).keys (ix4 (Operands.batch (tok t r)) k h e) := by
  obtain rfl : j = ⟨128 * h.val + e.val, by clear * -; omega⟩ := Fin.ext hj
  rw [batch_tok]
  blk_point [iblk, V, idx_mk t, argsOf]

theorem vals_apply (c : Dev nD) (t : Fin cfg0.N) (r : Fin 512) (k : Fin 256) (h : Fin 4) (e : Fin 128) (j : Fin 512)
    (hj : j.val = 128 * h.val + e.val) :
    (iblk m c 5 t : Vec Ideal S1x256x512 .f32) (ix3 0 k j) = (argsOf m c).vals (ix4 (Operands.batch (tok t r)) k h e) := by
  obtain rfl : j = ⟨128 * h.val + e.val, by clear * -; omega⟩ := Fin.ext hj
  rw [batch_tok]
  blk_point [iblk, V, idx_mv t, argsOf]

/-- A head's products, from the row's query and the head's part of the memory keys. -/
theorem score_of (c : Dev nD) (t : Fin cfg0.N) (r : Fin 512) (h : Fin 4) (q : FVec Ideal S512x512 .f32)
    (k : Vec Ideal S1x256x128 .f32) (hq : ∀ j, q (ix2 r j) = (argsOf m c).query (tok t r) j)
    (hk : ∀ l e, k (ix3 0 l e) = (argsOf m c).keys (ix4 (Operands.batch (tok t r)) l h e)) (at' : Fin 128 → Fin 512)
    (hat : ∀ e, (at' e).val = 128 * h.val + e.val) (l : Fin 256) :
    (∑ e : Fin 128, q (ix2 r (at' e)) * k (ix3 0 l e)) = (argsOf m c).score (tok t r) h l :=
  Finset.sum_congr rfl fun e _ => congrArg₂ (· * ·)
    ((hq _).trans (congrArg ((argsOf m c).query (tok t r)) (Fin.ext (hat e)))) (hk l e)

/-- A head's entry, from the scaled products and the head's part of the memory values. -/
theorem head_of (c : Dev nD) (hf : (argsOf m c).Finite) (t : Fin cfg0.N) (r : Fin 512) (h : Fin 4) (e : Fin 128)
    (s v : Fin 256 → EReal)
    (hs : ∀ l, s l = (argsOf m c).score (tok t r) h l * (((Real.log 2)⁻¹ * (Real.sqrt 128)⁻¹ : ℝ) : EReal))
    (hv : ∀ l, v l = (argsOf m c).vals (ix4 (Operands.batch (tok t r)) l h e)) :
    rowHead s v = (argsOf m c).head (tok t r) h e := by
  rw [show s = _ from funext hs, show v = _ from funext hv]
  exact rowHead_scaled _ _ (fun k => hf.score _ (tok t r) h k) (0 : Fin 256)

theorem payload_apply (c : Dev nD) (hf : (argsOf m c).Finite) (t : Fin cfg0.N) (r : Fin 512) (d : Fin 1024) :
    k0_pay12 (iblk m c 0 t)
      (k0_pay5 (k0_pay4 (iblk m c 0 t) (iblk m c 1 t) (iblk m c 2 t)) (View.ld (iblk m c 4 t) r0_5))
      (k0_pay6 (k0_pay1 (iblk m c 0 t) (iblk m c 1 t) (iblk m c 2 t)) (View.ld (iblk m c 4 t) r0_6))
      (k0_pay7 (k0_pay2 (iblk m c 0 t) (iblk m c 1 t) (iblk m c 2 t) (View.ld (iblk m c 4 t) r0_3)) (View.ld (iblk m c 5 t) r0_3))
      (k0_pay9 (k0_pay13 (iblk m c 0 t) (iblk m c 1 t) (iblk m c 2 t) (iblk m c 3 t) (iblk m c 4 t) (iblk m c 5 t)))
      (k0_pay10 (k0_pay13 (iblk m c 0 t) (iblk m c 1 t) (iblk m c 2 t) (iblk m c 3 t) (iblk m c 4 t) (iblk m c 5 t)))
      (k0_pay11 (View.ld (iblk m c 5 t) r0_4)) (View.ld (iblk m c 5 t) r0_5) (View.ld (iblk m c 5 t) r0_6) (iblk m c 3 t) (ix2 r d)
      = (argsOf m c).result (tok t r) d := by
  have q : ∀ j, k0_pay1 (iblk m c 0 t) (iblk m c 1 t) (iblk m c 2 t) (ix2 r j) = (argsOf m c).query (tok t r) j := fun j =>
    query_apply m c t r j _ _ _ (x_apply m c t r) (g_apply m c t) fun d => wq_apply m c t d j
  have q' : ∀ j, k0_pay1 (View.ld (iblk m c 0 t) r0_0) (View.ld (iblk m c 1 t) r0_1) (View.ld (iblk m c 2 t) r0_2) (ix2 r j)
      = (argsOf m c).query (tok t r) j := fun j => query_apply m c t r j _ _ _
    (fun d => (show _ = (iblk m c 0 t : Vec Ideal S512x1024 .f32) (ix2 r d) by pointwise).trans (x_apply m c t r d))
    (fun d => (show _ = (iblk m c 1 t : Vec Ideal S1x1024 .f32) (ix2 0 d) by pointwise).trans (g_apply m c t d))
    fun d => (show _ = (iblk m c 2 t : Vec Ideal S1024x512 .bf16) (ix2 d j) by pointwise).trans (wq_apply m c t d j)
  have s1 : ∀ l, k0_pay13 (iblk m c 0 t) (iblk m c 1 t) (iblk m c 2 t) (iblk m c 3 t) (iblk m c 4 t) (iblk m c 5 t) (ix2 r l)
      = (argsOf m c).score (tok t r) 1 l * (((Real.log 2)⁻¹ * (Real.sqrt 128)⁻¹ : ℝ) : EReal) := fun l =>
    (pay3_apply r _ _ _ _ l).trans (congrArg (· * _) (score_of m c t r 1 _ _ q'
      (fun l e => (show _ = (iblk m c 4 t : Vec Ideal S1x256x512 .f32) (ix3 0 l ⟨128 + e.val, by clear * -; omega⟩) by pointwise).trans
        (keys_apply m c t r l 1 e _ rfl)) _ (fun _ => rfl) l))
  refine (pay12_apply r _ _ _ _ _ _ _ _ _ _ ((argsOf m c).head (tok t r)) (fun e => ?_) (fun e => ?_) (fun e => ?_)
    (fun e => ?_) d).trans ?_
  · rw [pay7_apply]
    refine head_of m c hf t r 0 e _ _ (fun l => ?_) fun l => ?_
    · exact (pay2_apply r _ _ _ _ l).trans (congrArg (· * _) (score_of m c t r 0 _ _ q
        (fun l e => (show _ = (iblk m c 4 t : Vec Ideal S1x256x512 .f32) (ix3 0 l ⟨e.val, by clear * -; omega⟩) by pointwise).trans
          (keys_apply m c t r l 0 e _ (by show e.val = 128 * 0 + e.val; omega))) _
        (fun e => by show e.val = 128 * 0 + e.val; omega) l))
    · exact (show _ = (iblk m c 5 t : Vec Ideal S1x256x512 .f32) (ix3 0 l ⟨e.val, by clear * -; omega⟩) by pointwise).trans
        (vals_apply m c t r l 0 e _ (by show e.val = 128 * 0 + e.val; omega))
  · refine Eq.trans ?_ (head_of m c hf t r 1 e (fun l => k0_pay13 (iblk m c 0 t) (iblk m c 1 t) (iblk m c 2 t) (iblk m c 3 t)
      (iblk m c 4 t) (iblk m c 5 t) (ix2 r l)) (fun l => k0_pay11 (View.ld (iblk m c 5 t) r0_4) (ix2 l e)) s1 fun l => ?_)
    · rw [pay9_apply]
      refine congrArg (Ideal.div · _) (Finset.sum_congr rfl fun l _ => congrArg (· * _) ?_)
      exact (show _ = k0_pay8 _ (ix2 r l) by unfold k0_pay10; pointwise).trans (pay8_apply r _ l)
    · exact (show _ = (iblk m c 5 t : Vec Ideal S1x256x512 .f32) (ix3 0 l ⟨128 + e.val, by clear * -; omega⟩) by
        unfold k0_pay11; pointwise).trans (vals_apply m c t r l 1 e _ rfl)
  · refine head_of m c hf t r 2 e _ _ (fun l => ?_) fun l => ?_
    · exact (pay5_apply r _ _ _ _ l).trans (congrArg (· * _) (score_of m c t r 2 _ _ q
        (fun l e => (show _ = (iblk m c 4 t : Vec Ideal S1x256x512 .f32) (ix3 0 l ⟨256 + e.val, by clear * -; omega⟩) by pointwise).trans
          (keys_apply m c t r l 2 e _ rfl)) _ (fun _ => rfl) l))
    · exact (show _ = (iblk m c 5 t : Vec Ideal S1x256x512 .f32) (ix3 0 l ⟨256 + e.val, by clear * -; omega⟩) by pointwise).trans
        (vals_apply m c t r l 2 e _ rfl)
  · refine head_of m c hf t r 3 e _ _ (fun l => ?_) fun l => ?_
    · exact (pay6_apply r _ _ l).trans (congrArg (· * _) (score_of m c t r 3 _ _ q
        (fun l e => (show _ = (iblk m c 4 t : Vec Ideal S1x256x512 .f32) (ix3 0 l ⟨384 + e.val, by clear * -; omega⟩) by pointwise).trans
          (keys_apply m c t r l 3 e _ rfl)) _ (fun _ => rfl) l))
    · exact (show _ = (iblk m c 5 t : Vec Ideal S1x256x512 .f32) (ix3 0 l ⟨384 + e.val, by clear * -; omega⟩) by pointwise).trans
        (vals_apply m c t r l 3 e _ rfl)
  · unfold Operands.result
    rw [x_apply]
    simp only [wo_apply]

theorem emb_y (t : Fin cfg0.N) (r : Fin 512) (d : Fin 1024) :
    ((View.whole main_v5).slice (win0_6.rect t)).emb (ix2 r d) = ix2 (tok t r) d := by
  have e := idx_y t
  have e0 : win0_6.index t (0 : Fin 2) = t.val := congrFun e 0
  have e1 : win0_6.index t (1 : Fin 2) = 0 := congrFun e 1
  funext a
  apply Fin.ext
  match a with
  | ⟨0, _⟩ => show win0_6.index t (0 : Fin 2) * 512 + 1 * r.val = 512 * t.val + r.val; omega
  | ⟨1, _⟩ => show win0_6.index t (1 : Fin 2) * 1024 + 1 * d.val = d.val; omega

theorem result_eq (c : Dev nD) (hf : (argsOf m c).Finite) :
    (dats m 0 c).arrAt 6 cfg0.N = (fun i => (argsOf m c).result (i 0) (i 1) : FVec Ideal S16384x1024 .f32) := by
  refine (dats m 0 c).arrAt_eq_of_covers 6 _ (by decide +kernel) fun t _ y => ?_
  blk_simp
  rw [after0_6]
  frame_out
  obtain ⟨r, d, rfl⟩ : ∃ (r : Fin 512) (d : Fin 1024), y = ix2 r d := ⟨_, _, eq_ix2 y⟩
  exact (payload_apply m c hf t r d).trans
    (congrArg (fun i : S16384x1024.Idx => (argsOf m c).result (i 0) (i 1)) (emb_y t r d).symm)

end Kernel

end Cert.Proof.Cross
-- ==== Proof.CrossRef.lean ====
/- The cross attention's reference read entry by entry, and the call's claims. -/
module

public import proofs.«01_k».proof.Defs
public import proofs.«01_k».proof.Proof.Cross
public import proofs.«01_k».proof.Proof.Gen.Kernel4.Frame
public import proofs.«01_k».proof.Proof.Gen.Reference4Ideal.Run
public import proofs.«01_k».proof.Proof.Gen.Reference4Ideal.Read
public import proofs.«01_k».proof.Proof.Gen.Pre_finite_cross
public import Idealize.ShloMosaic.Lib.Claim

@[expose] public section

set_option maxRecDepth 16384

noncomputable section

namespace Cert.Proof.Cross

open Idealize.ShloMosaic Idealize.ShloMosaic.TcCoe Idealize.SL.Sem
open Cert.Kernel4Ideal Cert.Kernel4Ideal.Gen

/-! ## The reference -/

section Reference

open Cert.Reference4Ideal.Read

theorem ofBits_128 : Ideal.ofBits .f32 1124073472#32 = ((128 : ℝ) : EReal) := by
  simp [Ideal.ofBits, Ideal.ieee]; rw [← EReal.coe_mul]; norm_num

/-- Dividing by the root is multiplying by its inverse. -/
theorem div_root (x : EReal) : Ideal.div x (Ideal.sqrt (Ideal.ofBits .f32 1124073472#32)) = x * (((Real.sqrt 128)⁻¹ : ℝ) : EReal) := by
  rw [ofBits_128, Ideal.sqrt_coe, if_neg (by norm_num), Ideal.div_coe (Real.sqrt_ne_zero'.mpr (by norm_num)), one_div]

/-- A maximum over the last axis that starts at `-∞`. -/
theorem peak_apply (v : FVec Ideal Cert.Reference4Ideal.S8x4x2048x256 .f32) (z : FVec Ideal Cert.Reference4Ideal.S_ .f32)
    (hz : z (Shape.Idx.first Cert.Reference4Ideal.Gen.h_S_) = ⊥) (b : Fin 8) (h : Fin 4) (s : Fin 2048) :
    Host.reduce FloatOps.maximumf v z Cert.Reference4Ideal.Gen.reducesTo_S8x4x2048x256_S8x4x2048_d3 Cert.Reference4Ideal.Gen.h_S_ (ix3 b h s)
      = peak fun k => v (ix4 b h s k) := by
  pointwise
  rw [hz]
  rfl

variable (a : Operands)

/-- The token at a place of a batch entry. -/
def place (b : Fin 8) (s : Fin 2048) : Fin 16384 := ⟨2048 * b.val + s.val, by omega⟩

theorem batch_place (b : Fin 8) (s : Fin 2048) : Operands.batch (place b s) = b :=
  Fin.ext (by show (2048 * b.val + s.val) / 2048 = b.val; omega)

theorem v0_apply (b : Fin 8) (s : Fin 2048) (d : Fin 1024) : val_main_v0 (F := Ideal) a.x (ix3 b s d) = a.x (ix2 (place b s) d) := by
  pointwise [val_main_v0]
  exact congrArg a.x (congrArg₂ ix2 (Fin.ext (by show b.val * 2048 + s.val = 2048 * b.val + s.val; omega)) rfl)

theorem v13_apply (b : Fin 8) (s : Fin 2048) (d : Fin 1024) :
    val_main_v13 (F := Ideal) a.x a.gain (ix3 b s d) = a.normed (place b s) d := by
  pointwise [val_main_v13, val_main_v10, val_main_v9, val_main_v8, val_main_v7, val_main_v6, val_main_v5, val_main_v4,
    val_main_v3, val_main_v2, val_main_v1, val_main_v11, val_main_v12, val_main_cst, val_main_cst_0, val_main_cst_1]
  simp only [v0_apply]
  rfl

theorem v14_apply (b : Fin 8) (s : Fin 2048) (j : Fin 512) :
    val_main_v14 (F := Ideal) a.x a.gain a.wq (ix3 b s j) = a.query (place b s) j := by
  pointwise [val_main_v14]
  simp only [v13_apply]
  rfl

theorem v15_apply (b : Fin 8) (s : Fin 2048) (h : Fin 4) (e : Fin 128) :
    val_main_v15 (F := Ideal) a.x a.gain a.wq (ix4 b s h e) = a.query (place b s) ⟨128 * h.val + e.val, by omega⟩ := by
  pointwise [val_main_v15]
  rw [v14_apply]
  exact congrArg _ (Fin.ext (by show h.val * 128 + e.val = 128 * h.val + e.val; omega))

/-- The scaled products of a place in one head. -/
def scaled (b : Fin 8) (h : Fin 4) (s : Fin 2048) (k : Fin 256) : EReal := a.score (place b s) h k * (((Real.sqrt 128)⁻¹ : ℝ) : EReal)

theorem v16_apply (b : Fin 8) (h : Fin 4) (s : Fin 2048) (k : Fin 256) :
    val_main_v16 (F := Ideal) a.x a.gain a.wq a.keys (ix4 b h s k) = a.score (place b s) h k := by
  pointwise [val_main_v16]
  simp only [v15_apply]
  unfold Operands.score
  rw [batch_place]

theorem v19_apply (b : Fin 8) (h : Fin 4) (s : Fin 2048) (k : Fin 256) :
    val_main_v19 (F := Ideal) a.x a.gain a.wq a.keys (ix4 b h s k) = scaled a b h s k := by
  pointwise [val_main_v19, val_main_v18, val_main_v17, val_main_cst_2]
  rw [v16_apply, div_root]
  rfl

theorem v20_apply (b : Fin 8) (h : Fin 4) (s : Fin 2048) :
    val_main_v20 (F := Ideal) a.x a.gain a.wq a.keys (ix3 b h s) = peak (scaled a b h s) := by
  unfold val_main_v20
  refine (peak_apply _ _ ?_ b h s).trans (congrArg peak (funext fun k => v19_apply a b h s k))
  exact ofBits_negInf

/-- A maximum with `-∞` leaves the other operand. -/
theorem max_floor {σ : Shape} (z x : FVec Ideal σ .f32) (i : σ.Idx) (hz : z i = ⊥) : maximumf z x i = x i := by
  show max (z i) (x i) = x i
  rw [hz]
  exact max_eq_right bot_le

theorem v21_apply (i : Cert.Reference4Ideal.S8x4x2048.Idx) : val_main_v21 (F := Ideal) i = ⊥ := by
  rw [val_main_v21_apply]
  exact ofBits_negInf

theorem v22_apply (b : Fin 8) (h : Fin 4) (s : Fin 2048) :
    val_main_v22 (F := Ideal) a.x a.gain a.wq a.keys (ix3 b h s) = peak (scaled a b h s) := by
  unfold val_main_v22
  exact (max_floor _ _ _ (v21_apply _)).trans (v20_apply a b h s)

theorem v26_apply (b : Fin 8) (h : Fin 4) (s : Fin 2048) (k : Fin 256) :
    val_main_v26 (F := Ideal) a.x a.gain a.wq a.keys (ix4 b h s k) = Ideal.exp (scaled a b h s k - peak (scaled a b h s)) := by
  pointwise [val_main_v26, val_main_v25, val_main_v24, val_main_v23]
  rw [v19_apply, v22_apply]

theorem v30_apply (b : Fin 8) (h : Fin 4) (s : Fin 2048) (k : Fin 256) :
    val_main_v30 (F := Ideal) a.x a.gain a.wq a.keys (ix4 b h s k)
      = Ideal.div (Ideal.exp (scaled a b h s k - peak (scaled a b h s))) (∑ j, Ideal.exp (scaled a b h s j - peak (scaled a b h s))) := by
  pointwise [val_main_v30, val_main_v29, val_main_v28, val_main_v27, val_main_cst_5]
  simp only [v26_apply]

theorem v32_apply (b : Fin 8) (s : Fin 2048) (h : Fin 4) (e : Fin 128) :
    val_main_v32 (F := Ideal) a.x a.gain a.wq a.keys a.vals (ix4 b s h e) = a.head (place b s) h e := by
  pointwise [val_main_v32, val_main_v31]
  simp only [v30_apply]
  unfold Operands.head
  rw [batch_place]
  rfl

theorem v33_apply (b : Fin 8) (s : Fin 2048) (j : Fin 512) :
    val_main_v33 (F := Ideal) a.x a.gain a.wq a.keys a.vals (ix3 b s j)
      = a.head (place b s) ⟨j.val / 128, by omega⟩ ⟨j.val % 128, by omega⟩ := by
  pointwise [val_main_v33]
  rw [v32_apply]

theorem v36_apply (t : Fin 16384) (d : Fin 1024) :
    val_main_v36 (F := Ideal) a.x a.gain a.wq a.wo a.keys a.vals (ix2 t d) = a.result t d := by
  pointwise [val_main_v36, val_main_v35, val_main_v34]
  simp only [v0_apply, v33_apply]
  have ht : place ⟨t.val / 2048, by omega⟩ ⟨t.val % 2048, by omega⟩ = t := Fin.ext (Nat.div_add_mod t.val 2048)
  rw [ht]
  rfl

/-- The precondition read: what the scores are computed from is finite. -/
theorem finite_of_pre (h :
    (Cert.Pre_finite_cross.fn (F := Ideal) a.x a.gain a.wq a.wo a.keys a.vals).1 = (fun _ => 1#1)
    ∧ (Cert.Pre_finite_cross.fn (F := Ideal) a.x a.gain a.wq a.wo a.keys a.vals).2.1 = (fun _ => 1#1)
    ∧ (Cert.Pre_finite_cross.fn (F := Ideal) a.x a.gain a.wq a.wo a.keys a.vals).2.2.1 = (fun _ => 1#1)
    ∧ (Cert.Pre_finite_cross.fn (F := Ideal) a.x a.gain a.wq a.wo a.keys a.vals).2.2.2 = (fun _ => 1#1)) : a.Finite :=
  ⟨finite_of_test a.x _ h.1, finite_of_test a.gain _ h.2.1, finite_of_test a.wq _ h.2.2.1, finite_of_test a.keys _ h.2.2.2⟩

end Reference

theorem frame_kernel : Cert.quiescent_Kernel4 := fun m ρ _ => Cert.Kernel4.Gen.frame m ρ

theorem frame_ideal : Cert.quiescent_Kernel4Ideal := fun m ρ _ => Cert.Kernel4Ideal.Gen.frame m ρ

theorem frame_ideal_pre : Cert.quiescent_Kernel4Ideal_pre_finite_cross := fun m ρ _ => Cert.Kernel4Ideal.Gen.frame m ρ

theorem frame_reference : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem frame_reference_pre : Cert.quiescent_Reference4Ideal_pre_finite_cross := fun m ρ _ => frame_reference m ρ trivial

theorem preserves : Cert.preserves_Kernel4_Kernel4Ideal :=
  IdealRules.named_const.statement Cert.Kernel4Ideal.κ "cross_scale" .f32 0x3E0293EE#32 _ rfl

/-- Kernel and reference end with the layer's result of the same arguments. -/
theorem algebraic : Cert.algebraic_Kernel4Ideal_Reference4Ideal_pre_finite_cross := by
  intro m g m' g' hpre hagree
  refine ⟨_, Cert.Kernel4Ideal.Value.run_blocks (F := Ideal) m g, ?_⟩
  refine (θ_run Cert.Reference4Ideal.defs _ _).mono (fun _ h c => ⟨(h c).1.trans ?_, (h c).2⟩)
    (Cert.Reference4Ideal.Value.run (F := Ideal) m' g')
  obtain ⟨h0, h1, h2, h3, h4, h5⟩ := hagree c
  have hf : (argsOf m c).Finite := finite_of_pre (argsOf m c) (hpre c)
  rw [Cert.Reference4Ideal.Read.val_main_v36_eq, h0, h1, h2, h3, h4, h5, result_eq m c hf]
  funext i
  exact (congrArg (Cert.Reference4Ideal.Read.val_main_v36 (F := Ideal) _ _ _ _ _ _) (eq_ix2 i)).trans (v36_apply (argsOf m c) (i 0) (i 1))

end Cert.Proof.Cross
-- ==== Proof.OutAB.lean ====
/- The output projection of the even layers: 512 tokens a grid point, the two halves of the heads each times their half of
   the projection, plus the residual. -/
module

public import proofs.«01_k».proof.Defs
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import Idealize.ShloMosaic.Lib.Pipeline.ValueKit
public import Idealize.ShloMosaic.Lib.Claim

@[expose] public section

set_option maxRecDepth 16384

noncomputable section

namespace Cert.Proof.OutAB

open Idealize.ShloMosaic Idealize.ShloMosaic.TcCoe Idealize.SL.Sem
open Cert.Kernel5Ideal Cert.Kernel5Ideal.Gen

variable (m : (ℓ : Loc nD τ sig) → Buf (Elt Ideal) ℓ)

theorem idx_a : ∀ t : Fin grid0.N, win0_0.index t = ![t.val, 0] := by decide +kernel
theorem idx_b : ∀ t : Fin grid0.N, win0_1.index t = ![t.val, 0] := by decide +kernel
theorem idx_wa : ∀ t : Fin grid0.N, win0_2.index t = ![0, 0] := by decide +kernel
theorem idx_wb : ∀ t : Fin grid0.N, win0_3.index t = ![0, 0] := by decide +kernel
theorem idx_x : ∀ t : Fin grid0.N, win0_4.index t = ![t.val, 0] := by decide +kernel
theorem idx_y : ∀ t : Fin grid0.N, win0_5.index t = ![t.val, 0] := by decide +kernel

/-- The token of row `r` in the block of point `t`. -/
def tok (t : Fin cfg0.N) (r : Fin 512) : Fin 16384 :=
  ⟨512 * t.val + r.val, by have := lt_of_lt_of_eq t.isLt (show cfg0.N = 32 from N_0); omega⟩

theorem a_apply (c : Dev nD) (t : Fin cfg0.N) (r k : Fin 512) :
    (iblk m c 0 t : Vec Ideal S512x512 .f32) (ix2 r k)
      = (m (c, Proc.tc.devRef main_arg0) : FVec Ideal S16384x512 .f32) (ix2 (tok t r) k) := by
  blk_point [iblk, V, idx_a t, tok]
theorem b_apply (c : Dev nD) (t : Fin cfg0.N) (r k : Fin 512) :
    (iblk m c 1 t : Vec Ideal S512x512 .f32) (ix2 r k)
      = (m (c, Proc.tc.devRef main_arg1) : FVec Ideal S16384x512 .f32) (ix2 (tok t r) k) := by
  blk_point [iblk, V, idx_b t, tok]
theorem wa_apply (c : Dev nD) (t : Fin cfg0.N) (k : Fin 512) (d : Fin 1024) :
    (iblk m c 2 t : Vec Ideal S512x1024 .bf16) (ix2 k d)
      = (m (c, Proc.tc.devRef main_arg2) : FVec Ideal S1024x1024 .f32) (ix2 ⟨k.val, by omega⟩ d) := by
  blk_point [iblk, V, idx_wa t]
theorem wb_apply (c : Dev nD) (t : Fin cfg0.N) (k : Fin 512) (d : Fin 1024) :
    (iblk m c 3 t : Vec Ideal S512x1024 .bf16) (ix2 k d)
      = (m (c, Proc.tc.devRef main_arg2) : FVec Ideal S1024x1024 .f32) (ix2 ⟨512 + k.val, by omega⟩ d) := by
  blk_point [iblk, V, idx_wb t]
theorem x_apply (c : Dev nD) (t : Fin cfg0.N) (r : Fin 512) (d : Fin 1024) :
    (iblk m c 4 t : Vec Ideal S512x1024 .f32) (ix2 r d)
      = (m (c, Proc.tc.devRef main_arg3) : FVec Ideal S16384x1024 .f32) (ix2 (tok t r) d) := by
  blk_point [iblk, V, idx_x t, tok]

/-- The residual plus the two halves' products, entry by entry. -/
def value (a b : FVec Ideal S16384x512 .f32) (w : FVec Ideal S1024x1024 .f32) (x : FVec Ideal S16384x1024 .f32) :
    FVec Ideal S16384x1024 .f32 :=
  fun i => x i + (∑ k : Fin 512, a (ix2 (i 0) k) * w (ix2 ⟨k.val, by omega⟩ (i 1))
    + ∑ k : Fin 512, b (ix2 (i 0) k) * w (ix2 ⟨512 + k.val, by omega⟩ (i 1)))

/-- The heads side by side, read in their left and in their right half. -/
theorem joined_left (a b : FVec Ideal S16384x512 .f32) (r : Fin 16384) (k : Fin 512) :
    Cert.Reference5Ideal.Read.val_main_v0 (F := Ideal) a b (ix2 r ⟨k.val, by omega⟩) = a (ix2 r k) := by
  pointwise [Cert.Reference5Ideal.Read.val_main_v0]
theorem joined_right (a b : FVec Ideal S16384x512 .f32) (r : Fin 16384) (k : Fin 512) :
    Cert.Reference5Ideal.Read.val_main_v0 (F := Ideal) a b (ix2 r ⟨512 + k.val, by omega⟩) = b (ix2 r k) := by
  pointwise [Cert.Reference5Ideal.Read.val_main_v0]

theorem reference_eq (a b : FVec Ideal S16384x512 .f32) (w : FVec Ideal S1024x1024 .f32) (x : FVec Ideal S16384x1024 .f32) :
    Cert.Reference5Ideal.Read.val_main_v2 (F := Ideal) a b w x = value a b w x := by
  funext i
  rw [eq_ix2 i]
  pointwise [Cert.Reference5Ideal.Read.val_main_v2, Cert.Reference5Ideal.Read.val_main_v1, value]
  refine congrArg (x i + ·) ?_
  refine (Fin.sum_univ_add (a := 512) (b := 512) _).trans (congrArg₂ (· + ·) ?_ ?_)
  · exact Finset.sum_congr rfl fun k _ => congrArg (· * _) (joined_left a b (i 0) k)
  · exact Finset.sum_congr rfl fun k _ => congrArg (· * _) (joined_right a b (i 0) k)

theorem payload_apply (c : Dev nD) (t : Fin cfg0.N) (r : Fin 512) (d : Fin 1024) :
    k0_pay1 (iblk m c 0 t) (iblk m c 1 t) (iblk m c 2 t) (iblk m c 3 t) (iblk m c 4 t) (ix2 r d)
      = value (m (c, Proc.tc.devRef main_arg0)) (m (c, Proc.tc.devRef main_arg1)) (m (c, Proc.tc.devRef main_arg2))
          (m (c, Proc.tc.devRef main_arg3)) (ix2 (tok t r) d) := by
  pointwise [k0_pay1, value]
  rw [x_apply, add_comm]
  simp only [a_apply, b_apply, wa_apply, wb_apply]

theorem emb_y (t : Fin cfg0.N) (r : Fin 512) (d : Fin 1024) :
    ((View.whole main_v3).slice (win0_5.rect t)).emb (ix2 r d) = ix2 (tok t r) d := by
  have e := idx_y t
  have e0 : win0_5.index t (0 : Fin 2) = t.val := congrFun e 0
  have e1 : win0_5.index t (1 : Fin 2) = 0 := congrFun e 1
  funext a
  apply Fin.ext
  match a with
  | ⟨0, _⟩ => show win0_5.index t (0 : Fin 2) * 512 + 1 * r.val = 512 * t.val + r.val; omega
  | ⟨1, _⟩ => show win0_5.index t (1 : Fin 2) * 1024 + 1 * d.val = d.val; omega

theorem result_eq (c : Dev nD) : (dats m 0 c).arrAt 5 cfg0.N
    = value (m (c, Proc.tc.devRef main_arg0)) (m (c, Proc.tc.devRef main_arg1)) (m (c, Proc.tc.devRef main_arg2))
        (m (c, Proc.tc.devRef main_arg3)) := by
  refine (dats m 0 c).arrAt_eq_of_covers 5 _ (by decide +kernel) fun t _ y => ?_
  blk_simp
  rw [after0_5]
  frame_out
  obtain ⟨r, d, rfl⟩ : ∃ (r : Fin 512) (d : Fin 1024), y = ix2 r d := ⟨_, _, eq_ix2 y⟩
  exact (payload_apply m c t r d).trans (congrArg _ (emb_y t r d).symm)

theorem frame_kernel : Cert.quiescent_Kernel5 := fun m ρ _ => Cert.Kernel5.Gen.frame m ρ

theorem frame_ideal : Cert.quiescent_Kernel5Ideal := fun m ρ _ => Cert.Kernel5Ideal.Gen.frame m ρ

theorem frame_reference : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem preserves : Cert.preserves_Kernel5_Kernel5Ideal := trivial

/-- Kernel and reference end with the same layer output of the same arguments. -/
theorem algebraic : Cert.algebraic_Kernel5Ideal_Reference5Ideal := by
  intro m g m' g' _ hagree
  refine ⟨_, Cert.Kernel5Ideal.Value.run_blocks (F := Ideal) m g, ?_⟩
  refine (θ_run Cert.Reference5Ideal.defs _ _).mono (fun _ h c => ⟨(h c).1.trans ?_, (h c).2⟩)
    (Cert.Reference5Ideal.Value.run (F := Ideal) m' g')
  obtain ⟨h0, h1, h2, h3⟩ := hagree c
  rw [Cert.Reference5Ideal.Read.val_main_v2_eq, h0, h1, h2, h3, result_eq, reference_eq]

end Cert.Proof.OutAB
-- ==== Proof.OutC.lean ====
/- The output projection of the odd layers: 512 tokens a grid point, the head outputs times the projection plus the
   residual. -/
module

public import proofs.«01_k».proof.Defs
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Read
public import Idealize.ShloMosaic.Lib.Pipeline.ValueKit
public import Idealize.ShloMosaic.Lib.Claim

@[expose] public section

set_option maxRecDepth 16384

noncomputable section

namespace Cert.Proof.OutC

open Idealize.ShloMosaic Idealize.ShloMosaic.TcCoe Idealize.SL.Sem
open Cert.Kernel6Ideal Cert.Kernel6Ideal.Gen

variable (m : (ℓ : Loc nD τ sig) → Buf (Elt Ideal) ℓ)

theorem idx_o : ∀ t : Fin grid0.N, win0_0.index t = ![t.val, 0] := by decide +kernel
theorem idx_w : ∀ t : Fin grid0.N, win0_1.index t = ![0, 0] := by decide +kernel
theorem idx_x : ∀ t : Fin grid0.N, win0_2.index t = ![t.val, 0] := by decide +kernel
theorem idx_y : ∀ t : Fin grid0.N, win0_3.index t = ![t.val, 0] := by decide +kernel

/-- The token of row `r` in the block of point `t`. -/
def tok (t : Fin cfg0.N) (r : Fin 512) : Fin 16384 :=
  ⟨512 * t.val + r.val, by have := lt_of_lt_of_eq t.isLt (show cfg0.N = 32 from N_0); omega⟩

theorem o_apply (c : Dev nD) (t : Fin cfg0.N) (r : Fin 512) (k : Fin 1024) :
    (iblk m c 0 t : Vec Ideal S512x1024 .f32) (ix2 r k)
      = (m (c, Proc.tc.devRef main_arg0) : FVec Ideal S16384x1024 .f32) (ix2 (tok t r) k) := by
  blk_point [iblk, V, idx_o t, tok]
theorem w_apply (c : Dev nD) (t : Fin cfg0.N) (k d : Fin 1024) :
    (iblk m c 1 t : Vec Ideal S1024x1024 .bf16) (ix2 k d)
      = (m (c, Proc.tc.devRef main_arg1) : FVec Ideal S1024x1024 .f32) (ix2 k d) := by
  blk_point [iblk, V, idx_w t]
theorem x_apply (c : Dev nD) (t : Fin cfg0.N) (r : Fin 512) (d : Fin 1024) :
    (iblk m c 2 t : Vec Ideal S512x1024 .f32) (ix2 r d)
      = (m (c, Proc.tc.devRef main_arg2) : FVec Ideal S16384x1024 .f32) (ix2 (tok t r) d) := by
  blk_point [iblk, V, idx_x t, tok]

/-- The residual plus the projected head outputs, entry by entry. -/
def value (o : FVec Ideal S16384x1024 .f32) (w : FVec Ideal S1024x1024 .f32) (x : FVec Ideal S16384x1024 .f32) :
    FVec Ideal S16384x1024 .f32 :=
  fun i => x i + ∑ k : Fin 1024, o (ix2 (i 0) k) * w (ix2 k (i 1))

theorem reference_eq (o : FVec Ideal S16384x1024 .f32) (w : FVec Ideal S1024x1024 .f32) (x : FVec Ideal S16384x1024 .f32) :
    Cert.Reference6Ideal.Read.val_main_v1 (F := Ideal) o w x = value o w x := by
  funext i
  rw [eq_ix2 i]
  pointwise [Cert.Reference6Ideal.Read.val_main_v1, Cert.Reference6Ideal.Read.val_main_v0, value]

theorem payload_apply (c : Dev nD) (t : Fin cfg0.N) (r : Fin 512) (d : Fin 1024) :
    k0_pay1 (iblk m c 0 t) (iblk m c 1 t) (iblk m c 2 t) (ix2 r d)
      = value (m (c, Proc.tc.devRef main_arg0)) (m (c, Proc.tc.devRef main_arg1)) (m (c, Proc.tc.devRef main_arg2)) (ix2 (tok t r) d) := by
  pointwise [k0_pay1, value]
  rw [x_apply, add_comm]
  simp only [o_apply, w_apply]

theorem emb_y (t : Fin cfg0.N) (r : Fin 512) (d : Fin 1024) :
    ((View.whole main_v1).slice (win0_3.rect t)).emb (ix2 r d) = ix2 (tok t r) d := by
  have e := idx_y t
  have e0 : win0_3.index t (0 : Fin 2) = t.val := congrFun e 0
  have e1 : win0_3.index t (1 : Fin 2) = 0 := congrFun e 1
  funext a
  apply Fin.ext
  match a with
  | ⟨0, _⟩ => show win0_3.index t (0 : Fin 2) * 512 + 1 * r.val = 512 * t.val + r.val; omega
  | ⟨1, _⟩ => show win0_3.index t (1 : Fin 2) * 1024 + 1 * d.val = d.val; omega

theorem result_eq (c : Dev nD) : (dats m 0 c).arrAt 3 cfg0.N
    = value (m (c, Proc.tc.devRef main_arg0)) (m (c, Proc.tc.devRef main_arg1)) (m (c, Proc.tc.devRef main_arg2)) := by
  refine (dats m 0 c).arrAt_eq_of_covers 3 _ (by decide +kernel) fun t _ y => ?_
  blk_simp
  rw [after0_3]
  frame_out
  obtain ⟨r, d, rfl⟩ : ∃ (r : Fin 512) (d : Fin 1024), y = ix2 r d := ⟨_, _, eq_ix2 y⟩
  exact (payload_apply m c t r d).trans (congrArg _ (emb_y t r d).symm)

theorem frame_kernel : Cert.quiescent_Kernel6 := fun m ρ _ => Cert.Kernel6.Gen.frame m ρ

theorem frame_ideal : Cert.quiescent_Kernel6Ideal := fun m ρ _ => Cert.Kernel6Ideal.Gen.frame m ρ

theorem frame_reference : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

theorem preserves : Cert.preserves_Kernel6_Kernel6Ideal := trivial

/-- Kernel and reference end with the same layer output of the same arguments. -/
theorem algebraic : Cert.algebraic_Kernel6Ideal_Reference6Ideal := by
  intro m g m' g' _ hagree
  refine ⟨_, Cert.Kernel6Ideal.Value.run_blocks (F := Ideal) m g, ?_⟩
  refine (θ_run Cert.Reference6Ideal.defs _ _).mono (fun _ h c => ⟨(h c).1.trans ?_, (h c).2⟩)
    (Cert.Reference6Ideal.Value.run (F := Ideal) m' g')
  obtain ⟨h0, h1, h2⟩ := hagree c
  rw [Cert.Reference6Ideal.Read.val_main_v1_eq, h0, h1, h2, result_eq, reference_eq]

end Cert.Proof.OutC
-- ==== Proof.lean ====
/- The proof of the certificate's claim: each call's claims are proved in a module of its own and put together here. -/
module

public import proofs.«01_k».proof.Defs
public import proofs.«01_k».proof.Proof.Moe
public import proofs.«01_k».proof.Proof.InProj
public import proofs.«01_k».proof.Proof.Memory
public import proofs.«01_k».proof.Proof.CrossRef
public import proofs.«01_k».proof.Proof.OutAB
public import proofs.«01_k».proof.Proof.OutC
public import Idealize.ShloMosaic.Adequacy
public import Idealize.ShloMosaic.Init

@[expose] public section

noncomputable section

namespace Cert.Proof

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts,
    Cert.Reference4Ideal.Gen.facts, Cert.Kernel5.Gen.facts, Cert.Kernel5Ideal.Gen.facts,
    Cert.Reference5Ideal.Gen.facts, Cert.Kernel6.Gen.facts, Cert.Kernel6Ideal.Gen.facts,
    Cert.Reference6Ideal.Gen.facts, Cert.Pre_finite_routing.Gen.facts, Cert.Pre_finite_cross.Gen.facts,
    Moe.frame_kernel, Moe.frame_ideal, Moe.frame_ideal_pre, Moe.frame_reference, Moe.frame_reference_pre,
    InProj.frame_kernel, InProj.frame_ideal, InProj.frame_reference, Memory.frame_kernel, Memory.frame_ideal,
    Memory.frame_reference, Cross.frame_kernel, Cross.frame_ideal, Cross.frame_ideal_pre, Cross.frame_reference,
    Cross.frame_reference_pre, OutAB.frame_kernel, OutAB.frame_ideal, OutAB.frame_reference, OutC.frame_kernel,
    OutC.frame_ideal, OutC.frame_reference, Moe.preserves, Moe.algebraic, InProj.preserves, InProj.algebraic,
    Memory.preserves, Memory.algebraic, Cross.preserves, Cross.algebraic, OutAB.preserves, OutAB.algebraic,
    OutC.preserves, OutC.algebraic⟩

end Cert.Proof

end
